-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_to_attention [hPre_finite_to_attention : Cert.Pre_finite_to_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_to_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_to_attention [hPre_finite_to_attention : Cert.Pre_finite_to_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_to_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_to_attention [hKernelIdeal : Cert.KernelIdeal.Facts] [hPre_finite_to_attention : Cert.Pre_finite_to_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_to_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_to_attention [hReferenceIdeal : Cert.ReferenceIdeal.Facts] [hPre_finite_to_attention : Cert.Pre_finite_to_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_to_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "freq" .f32 0xBF935D8E#32 ((-((Real.log 10000) * 8⁻¹) : ℝ) : EReal)
  ∧ IdealRules.named_const.Statement Cert.KernelIdeal.κ "scale" .f32 0x3E8293EE#32 (((Real.log 2)⁻¹ * (Real.sqrt 32)⁻¹ : ℝ) : EReal)
  ∧ IdealRules.named_const.Statement Cert.KernelIdeal.κ "gelu_a" .bf16 0x3D37#16 ((12003091 / 268435456 : ℝ) : EReal)
  ∧ IdealRules.named_const.Statement Cert.KernelIdeal.κ "gelu_c" .bf16 0x3F4C#16 ((6693141 / 8388608 : ℝ) : EReal)

def algebraic_KernelIdeal_ReferenceIdeal_pre_finite_to_attention [hKernelIdeal : Cert.KernelIdeal.Facts] [hReferenceIdeal : Cert.ReferenceIdeal.Facts] [hPre_finite_to_attention : Cert.Pre_finite_to_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_to_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_to_attention : Cert.Pre_finite_to_attention.Facts),
    quiescent_Kernel (hKernel := hKernel)
    ∧ quiescent_KernelIdeal (hKernelIdeal := hKernelIdeal)
    ∧ quiescent_KernelIdeal_pre_finite_to_attention (hKernelIdeal := hKernelIdeal) (hPre_finite_to_attention := hPre_finite_to_attention)
    ∧ quiescent_ReferenceIdeal (hReferenceIdeal := hReferenceIdeal)
    ∧ quiescent_ReferenceIdeal_pre_finite_to_attention (hReferenceIdeal := hReferenceIdeal) (hPre_finite_to_attention := hPre_finite_to_attention)
    ∧ preserves_Kernel_KernelIdeal
    ∧ algebraic_KernelIdeal_ReferenceIdeal_pre_finite_to_attention (hKernelIdeal := hKernelIdeal) (hReferenceIdeal := hReferenceIdeal) (hPre_finite_to_attention := hPre_finite_to_attention)
-- ==== Pre_finite_to_attention.lean ====
abbrev S8x32x512x256 : Shape := ⟨4, ![8, 32, 512, 256]⟩
abbrev S8x32x512x2 : Shape := ⟨4, ![8, 32, 512, 2]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S_ : Shape := ⟨0, ![]⟩

class Facts : Prop where
  bcast_S_S8x32x512x256 : S_.BroadcastsInDim S8x32x512x256 (![] : Fin 0 → Fin S8x32x512x256.rank)
  reducesTo_S8x32x512x256_S_d0_1_2_3 : S8x32x512x256.ReducesTo [0, 1, 2, 3] S_
  h_S_ : 0 < S_.numel
  bcast_S_S8x32x512x2 : S_.BroadcastsInDim S8x32x512x2 (![] : Fin 0 → Fin S8x32x512x2.rank)
  reducesTo_S8x32x512x2_S_d0_1_2_3 : S8x32x512x2.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x32x512x256 .f32) (main_arg1 : FVec F S8x32x512x2 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S256x1024 .f32) (main_arg15 : FVec F S1024 .f32) (main_arg16 : FVec F S1024x256 .f32) (main_arg17 : FVec F S256 .f32) : IVec S_ 1 :=
  let main_v0 : FVec F S8x32x512x256 .f32 := Host.absf main_arg0
  let main_cst : FVec F S_ .f32 := constant S_ .f32 0x7F800000#32
  let main_v1 : FVec F S8x32x512x256 .f32 := broadcastInDim S8x32x512x256 ![] bcast_S_S8x32x512x256 main_cst
  let main_v2 : IVec S8x32x512x256 1 := cmpf .olt main_v0 main_v1
  let main_c : IVec S_ 1 := constantI S_ 1 1#1
  let main_v3 : IVec S_ 1 := (fun x v => Host.reduce IntOp.andi x v reducesTo_S8x32x512x256_S_d0_1_2_3 h_S_) main_v2 main_c
  let main_v4 : FVec F S8x32x512x2 .f32 := Host.absf main_arg1
  let main_cst_0 : FVec F S_ .f32 := constant S_ .f32 0x7F800000#32
  let main_v5 : FVec F S8x32x512x2 .f32 := broadcastInDim S8x32x512x2 ![] bcast_S_S8x32x512x2 main_cst_0
  let main_v6 : IVec S8x32x512x2 1 := cmpf .olt main_v4 main_v5
  let main_c_1 : IVec S_ 1 := constantI S_ 1 1#1
  let main_v7 : IVec S_ 1 := (fun x v => Host.reduce IntOp.andi x v reducesTo_S8x32x512x2_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S8x32x512x256 : Shape := ⟨4, ![8, 32, 512, 256]⟩
abbrev S8x32x512x2 : Shape := ⟨4, ![8, 32, 512, 2]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S256x1 : Shape := ⟨2, ![256, 1]⟩
abbrev S1x256 : Shape := ⟨2, ![1, 256]⟩
abbrev S1x1024 : Shape := ⟨2, ![1, 1024]⟩
abbrev S1x32x128x256 : Shape := ⟨4, ![1, 32, 128, 256]⟩
abbrev S1x32x128x2 : Shape := ⟨4, ![1, 32, 128, 2]⟩
abbrev S32x128x256 : Shape := ⟨3, ![32, 128, 256]⟩
abbrev S32x8x256 : Shape := ⟨3, ![32, 8, 256]⟩
abbrev S32x128x2 : Shape := ⟨3, ![32, 128, 2]⟩
abbrev S32x8x2 : Shape := ⟨3, ![32, 8, 2]⟩
abbrev S256x2 : Shape := ⟨2, ![256, 2]⟩
abbrev S256x248 : Shape := ⟨2, ![256, 248]⟩
abbrev S256x8 : Shape := ⟨2, ![256, 8]⟩
abbrev S256x32 : Shape := ⟨2, ![256, 32]⟩
abbrev S256x33 : Shape := ⟨2, ![256, 33]⟩
abbrev S1x32x8x256 : Shape := ⟨4, ![1, 32, 8, 256]⟩

abbrev nBuf : Space → Nat
  | .hbm => 38
  | .vmem => 25
  | .smem => 0
  | _ => 0

abbrev bufTy : (tb : Table) → Fin (tcTables nBuf tb) → BufTy
  | .hbm, ⟨0, _⟩ => ⟨S8x32x512x256, .f32⟩
  | .hbm, ⟨1, _⟩ => ⟨S8x32x512x2, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x1024, .f32⟩
  | .hbm, ⟨15, _⟩ => ⟨S1024, .f32⟩
  | .hbm, ⟨16, _⟩ => ⟨S1024x256, .f32⟩
  | .hbm, ⟨17, _⟩ => ⟨S256, .f32⟩
  | .hbm, ⟨18, _⟩ => ⟨S256x1, .f32⟩
  | .hbm, ⟨19, _⟩ => ⟨S1x256, .f32⟩
  | .hbm, ⟨20, _⟩ => ⟨S1x256, .f32⟩
  | .hbm, ⟨21, _⟩ => ⟨S256x1, .bf16⟩
  | .hbm, ⟨22, _⟩ => ⟨S1x256, .f32⟩
  | .hbm, ⟨23, _⟩ => ⟨S256x256, .bf16⟩
  | .hbm, ⟨24, _⟩ => ⟨S1x256, .f32⟩
  | .hbm, ⟨25, _⟩ => ⟨S256x256, .bf16⟩
  | .hbm, ⟨26, _⟩ => ⟨S1x256, .f32⟩
  | .hbm, ⟨27, _⟩ => ⟨S256x256, .bf16⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S256x1024, .bf16⟩
  | .hbm, ⟨34, _⟩ => ⟨S1x1024, .f32⟩
  | .hbm, ⟨35, _⟩ => ⟨S1024x256, .bf16⟩
  | .hbm, ⟨36, _⟩ => ⟨S1x256, .f32⟩
  | .hbm, ⟨37, _⟩ => ⟨S8x32x512x256, .f32⟩
  | .local _ .vmem, ⟨0, _⟩ => ⟨S1x32x128x256, .f32⟩
  | .local _ .vmem, ⟨1, _⟩ => ⟨S1x32x128x256, .f32⟩
  | .local _ .vmem, ⟨2, _⟩ => ⟨S1x32x128x2, .f32⟩
  | .local _ .vmem, ⟨3, _⟩ => ⟨S1x32x128x2, .f32⟩
  | .local _ .vmem, ⟨4, _⟩ => ⟨S256x1, .bf16⟩
  | .local _ .vmem, ⟨5, _⟩ => ⟨S1x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x1024, .bf16⟩
  | .local _ .vmem, ⟨20, _⟩ => ⟨S1x1024, .f32⟩
  | .local _ .vmem, ⟨21, _⟩ => ⟨S1024x256, .bf16⟩
  | .local _ .vmem, ⟨22, _⟩ => ⟨S1x256, .f32⟩
  | .local _ .vmem, ⟨23, _⟩ => ⟨S1x32x128x256, .f32⟩
  | .local _ .vmem, ⟨24, _⟩ => ⟨S1x32x128x256, .f32⟩
  | _, _ => ⟨S8x32x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_cst_1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x32x128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== KernelIdeal.lean ====
variable {F : FTy → Type} [FloatOps F] [Named F]
def κ : String → Option EReal := fun
  | "freq" => some ((-((Real.log 10000) * 8⁻¹) : ℝ) : EReal)
  | "gelu_a" => some ((12003091 / 268435456 : ℝ) : EReal)
  | "gelu_c" => some ((6693141 / 8388608 : ℝ) : EReal)
  | "mask" => some ⊥
  | "scale" => some (((Real.log 2)⁻¹ * (Real.sqrt 32)⁻¹ : ℝ) : EReal)
  | _ => none
-- ==== ReferenceIdeal.lean ====
abbrev S8x32x512x256 : Shape := ⟨4, ![8, 32, 512, 256]⟩
abbrev S8x32x512x2 : Shape := ⟨4, ![8, 32, 512, 2]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S8x512x32x256 : Shape := ⟨4, ![8, 512, 32, 256]⟩
abbrev S4096x32x256 : Shape := ⟨3, ![4096, 32, 256]⟩
abbrev S8x512x32x2 : Shape := ⟨4, ![8, 512, 32, 2]⟩
abbrev S4096x32x2 : Shape := ⟨3, ![4096, 32, 2]⟩
abbrev S_ : Shape := ⟨0, ![]⟩
abbrev S4096x32 : Shape := ⟨2, ![4096, 32]⟩
abbrev S4096x32x1 : Shape := ⟨3, ![4096, 32, 1]⟩
abbrev S1x1x256 : Shape := ⟨3, ![1, 1, 256]⟩
abbrev S4096x32x8x32 : Shape := ⟨4, ![4096, 32, 8, 32]⟩
abbrev S4096x32x8x16 : Shape := ⟨4, ![4096, 32, 8, 16]⟩
abbrev S8 : Shape := ⟨1, ![8]⟩
abbrev S1x1x8 : Shape := ⟨3, ![1, 1, 8]⟩
abbrev S4096x32x8 : Shape := ⟨3, ![4096, 32, 8]⟩
abbrev S4096x32x1x8 : Shape := ⟨4, ![4096, 32, 1, 8]⟩
abbrev S4096x32x8x8 : Shape := ⟨4, ![4096, 32, 8, 8]⟩
abbrev S4096x8x32x32 : Shape := ⟨4, ![4096, 8, 32, 32]⟩
abbrev S4096x8x32 : Shape := ⟨3, ![4096, 8, 32]⟩
abbrev S4096x8x32x1 : Shape := ⟨4, ![4096, 8, 32, 1]⟩
abbrev S4096x32x1024 : Shape := ⟨3, ![4096, 32, 1024]⟩
abbrev S1x1x1024 : Shape := ⟨3, ![1, 1, 1024]⟩

abbrev nBuf : Space → Nat
  | .hbm => 292
  | .vmem => 0
  | .smem => 0
  | _ => 0

abbrev hbmTy0_0 (i : Nat) : BufTy := match i % 128 with
  | 0 => ⟨S8x32x512x256, .f32⟩
  | 1 => ⟨S8x32x512x2, .f32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S256x1024, .f32⟩
  | 15 => ⟨S1024, .f32⟩
  | 16 => ⟨S1024x256, .f32⟩
  | 17 => ⟨S256, .f32⟩
  | 18 => ⟨S8x512x32x256, .f32⟩
  | 19 => ⟨S4096x32x256, .f32⟩
  | 20 => ⟨S8x512x32x2, .f32⟩
  | 21 => ⟨S4096x32x2, .f32⟩
  | 22 => ⟨S_, .f32⟩
  | 23 => ⟨S4096x32, .f32⟩
  | 24 => ⟨S4096x32x1, .f32⟩
  | 25 => ⟨S_, .f32⟩
  | 26 => ⟨S4096x32x1, .f32⟩
  | 27 => ⟨S4096x32x1, .f32⟩
  | 28 => ⟨S4096x32x256, .f32⟩
  | 29 => ⟨S4096x32x256, .f32⟩
  | 30 => ⟨S4096x32x256, .f32⟩
  | 31 => ⟨S_, .f32⟩
  | 32 => ⟨S4096x32, .f32⟩
  | 33 => ⟨S4096x32x1, .f32⟩
  | 34 => ⟨S_, .f32⟩
  | 35 => ⟨S4096x32x1, .f32⟩
  | 36 => ⟨S4096x32x1, .f32⟩
  | 37 => ⟨S4096x32x256, .f32⟩
  | 38 => ⟨S4096x32x256, .f32⟩
  | 39 => ⟨S_, .f32⟩
  | 40 => ⟨S4096x32x1, .f32⟩
  | 41 => ⟨S4096x32x1, .f32⟩
  | 42 => ⟨S4096x32x1, .f32⟩
  | 43 => ⟨S4096x32x256, .f32⟩
  | 44 => ⟨S4096x32x256, .f32⟩
  | 45 => ⟨S1x1x256, .f32⟩
  | 46 => ⟨S4096x32x256, .f32⟩
  | 47 => ⟨S4096x32x256, .f32⟩
  | 48 => ⟨S1x1x256, .f32⟩
  | 49 => ⟨S4096x32x256, .f32⟩
  | 50 => ⟨S4096x32x256, .f32⟩
  | 51 => ⟨S4096x32x256, .f32⟩
  | 52 => ⟨S1x1x256, .f32⟩
  | 53 => ⟨S4096x32x256, .f32⟩
  | 54 => ⟨S4096x32x256, .f32⟩
  | 55 => ⟨S4096x32x8x32, .f32⟩
  | 56 => ⟨S4096x32x256, .f32⟩
  | 57 => ⟨S1x1x256, .f32⟩
  | 58 => ⟨S4096x32x256, .f32⟩
  | 59 => ⟨S4096x32x256, .f32⟩
  | 60 => ⟨S4096x32x8x32, .f32⟩
  | 61 => ⟨S4096x32x256, .f32⟩
  | 62 => ⟨S1x1x256, .f32⟩
  | 63 => ⟨S4096x32x256, .f32⟩
  | 64 => ⟨S4096x32x256, .f32⟩
  | 65 => ⟨S4096x32x8x32, .f32⟩
  | 66 => ⟨S4096x32x8x16, .f32⟩
  | 67 => ⟨S4096x32x1, .f32⟩
  | 68 => ⟨S4096x32, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S4096x32x1, .f32⟩
  | 80 => ⟨S1x1x8, .f32⟩
  | 81 => ⟨S4096x32x8, .f32⟩
  | 82 => ⟨S4096x32x8, .f32⟩
  | 83 => ⟨S4096x32x8, .f32⟩
  | 84 => ⟨S4096x32x8, .f32⟩
  | 85 => ⟨S4096x32x1x8, .f32⟩
  | 86 => ⟨S4096x32x8, .f32⟩
  | 87 => ⟨S4096x32x1x8, .f32⟩
  | 88 => ⟨S4096x32x8x8, .f32⟩
  | 89 => ⟨S4096x32x8x8, .f32⟩
  | 90 => ⟨S4096x32x8x8, .f32⟩
  | 91 => ⟨S4096x32x8x8, .f32⟩
  | 92 => ⟨S4096x32x8x8, .f32⟩
  | 93 => ⟨S4096x32x8x8, .f32⟩
  | 94 => ⟨S4096x32x8x8, .f32⟩
  | 95 => ⟨S4096x32x8x8, .f32⟩
  | 96 => ⟨S4096x32x8x8, .f32⟩
  | 97 => ⟨S4096x32x8x8, .f32⟩
  | 98 => ⟨S4096x32x8x8, .f32⟩
  | 99 => ⟨S4096x32x8x8, .f32⟩
  | 100 => ⟨S4096x32x8x16, .f32⟩
  | 101 => ⟨S4096x32x8x16, .f32⟩
  | 102 => ⟨S4096x32x1, .f32⟩
  | 103 => ⟨S4096x32, .f32⟩
  | 104 => ⟨S8, .f32⟩
  | 105 => ⟨S_, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S4096x32x1, .f32⟩
  | 115 => ⟨S1x1x8, .f32⟩
  | 116 => ⟨S4096x32x8, .f32⟩
  | 117 => ⟨S4096x32x8, .f32⟩
  | 118 => ⟨S4096x32x8, .f32⟩
  | 119 => ⟨S4096x32x8, .f32⟩
  | 120 => ⟨S4096x32x1x8, .f32⟩
  | 121 => ⟨S4096x32x8, .f32⟩
  | 122 => ⟨S4096x32x1x8, .f32⟩
  | 123 => ⟨S4096x32x8x8, .f32⟩
  | 124 => ⟨S4096x32x8x8, .f32⟩
  | 125 => ⟨S4096x32x8x8, .f32⟩
  | 126 => ⟨S4096x32x8x8, .f32⟩
  | 127 => ⟨S4096x32x8x8, .f32⟩
  | _ => ⟨S8x32x512x256, .f32⟩

abbrev hbmTy0_1 (i : Nat) : BufTy := match i % 128 with
  | 0 => ⟨S4096x32x8x8, .f32⟩
  | 1 => ⟨S4096x32x8x8, .f32⟩
  | 2 => ⟨S4096x32x8x8, .f32⟩
  | 3 => ⟨S4096x32x8x8, .f32⟩
  | 4 => ⟨S4096x32x8x8, .f32⟩
  | 5 => ⟨S4096x32x8x8, .f32⟩
  | 6 => ⟨S4096x32x8x8, .f32⟩
  | 7 => ⟨S4096x32x8x16, .f32⟩
  | 8 => ⟨S4096x32x8x32, .f32⟩
  | 9 => ⟨S4096x32x8x16, .f32⟩
  | 10 => ⟨S4096x32x1, .f32⟩
  | 11 => ⟨S4096x32, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S4096x32x1, .f32⟩
  | 23 => ⟨S1x1x8, .f32⟩
  | 24 => ⟨S4096x32x8, .f32⟩
  | 25 => ⟨S4096x32x8, .f32⟩
  | 26 => ⟨S4096x32x8, .f32⟩
  | 27 => ⟨S4096x32x8, .f32⟩
  | 28 => ⟨S4096x32x1x8, .f32⟩
  | 29 => ⟨S4096x32x8, .f32⟩
  | 30 => ⟨S4096x32x1x8, .f32⟩
  | 31 => ⟨S4096x32x8x8, .f32⟩
  | 32 => ⟨S4096x32x8x8, .f32⟩
  | 33 => ⟨S4096x32x8x8, .f32⟩
  | 34 => ⟨S4096x32x8x8, .f32⟩
  | 35 => ⟨S4096x32x8x8, .f32⟩
  | 36 => ⟨S4096x32x8x8, .f32⟩
  | 37 => ⟨S4096x32x8x8, .f32⟩
  | 38 => ⟨S4096x32x8x8, .f32⟩
  | 39 => ⟨S4096x32x8x8, .f32⟩
  | 40 => ⟨S4096x32x8x8, .f32⟩
  | 41 => ⟨S4096x32x8x8, .f32⟩
  | 42 => ⟨S4096x32x8x8, .f32⟩
  | 43 => ⟨S4096x32x8x16, .f32⟩
  | 44 => ⟨S4096x32x8x16, .f32⟩
  | 45 => ⟨S4096x32x1, .f32⟩
  | 46 => ⟨S4096x32, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S4096x32x1, .f32⟩
  | 58 => ⟨S1x1x8, .f32⟩
  | 59 => ⟨S4096x32x8, .f32⟩
  | 60 => ⟨S4096x32x8, .f32⟩
  | 61 => ⟨S4096x32x8, .f32⟩
  | 62 => ⟨S4096x32x8, .f32⟩
  | 63 => ⟨S4096x32x1x8, .f32⟩
  | 64 => ⟨S4096x32x8, .f32⟩
  | 65 => ⟨S4096x32x1x8, .f32⟩
  | 66 => ⟨S4096x32x8x8, .f32⟩
  | 67 => ⟨S4096x32x8x8, .f32⟩
  | 68 => ⟨S4096x32x8x8, .f32⟩
  | 69 => ⟨S4096x32x8x8, .f32⟩
  | 70 => ⟨S4096x32x8x8, .f32⟩
  | 71 => ⟨S4096x32x8x8, .f32⟩
  | 72 => ⟨S4096x32x8x8, .f32⟩
  | 73 => ⟨S4096x32x8x8, .f32⟩
  | 74 => ⟨S4096x32x8x8, .f32⟩
  | 75 => ⟨S4096x32x8x8, .f32⟩
  | 76 => ⟨S4096x32x8x8, .f32⟩
  | 77 => ⟨S4096x32x8x8, .f32⟩
  | 78 => ⟨S4096x32x8x16, .f32⟩
  | 79 => ⟨S4096x32x8x32, .f32⟩
  | 80 => ⟨S4096x8x32x32, .f32⟩
  | 81 => ⟨S_, .f32⟩
  | 82 => ⟨S_, .f32⟩
  | 83 => ⟨S4096x8x32x32, .f32⟩
  | 84 => ⟨S4096x8x32x32, .f32⟩
  | 85 => ⟨S_, .f32⟩
  | 86 => ⟨S4096x8x32, .f32⟩
  | 87 => ⟨S_, .f32⟩
  | 88 => ⟨S4096x8x32, .f32⟩
  | 89 => ⟨S4096x8x32, .f32⟩
  | 90 => ⟨S4096x8x32x1, .f32⟩
  | 91 => ⟨S4096x8x32x32, .f32⟩
  | 92 => ⟨S4096x8x32x32, .f32⟩
  | 93 => ⟨S4096x8x32x32, .f32⟩
  | 94 => ⟨S_, .f32⟩
  | 95 => ⟨S4096x8x32, .f32⟩
  | 96 => ⟨S4096x8x32x1, .f32⟩
  | 97 => ⟨S4096x8x32x32, .f32⟩
  | 98 => ⟨S4096x8x32x32, .f32⟩
  | 99 => ⟨S4096x8x32x32, .f32⟩
  | 100 => ⟨S4096x32x8x32, .f32⟩
  | 101 => ⟨S4096x32x256, .f32⟩
  | 102 => ⟨S4096x32x256, .f32⟩
  | 103 => ⟨S4096x32x256, .f32⟩
  | 104 => ⟨S1x1x256, .f32⟩
  | 105 => ⟨S4096x32x256, .f32⟩
  | 106 => ⟨S4096x32x256, .f32⟩
  | 107 => ⟨S_, .f32⟩
  | 108 => ⟨S4096x32, .f32⟩
  | 109 => ⟨S4096x32x1, .f32⟩
  | 110 => ⟨S_, .f32⟩
  | 111 => ⟨S4096x32x1, .f32⟩
  | 112 => ⟨S4096x32x1, .f32⟩
  | 113 => ⟨S4096x32x256, .f32⟩
  | 114 => ⟨S4096x32x256, .f32⟩
  | 115 => ⟨S4096x32x256, .f32⟩
  | 116 => ⟨S_, .f32⟩
  | 117 => ⟨S4096x32, .f32⟩
  | 118 => ⟨S4096x32x1, .f32⟩
  | 119 => ⟨S_, .f32⟩
  | 120 => ⟨S4096x32x1, .f32⟩
  | 121 => ⟨S4096x32x1, .f32⟩
  | 122 => ⟨S4096x32x256, .f32⟩
  | 123 => ⟨S4096x32x256, .f32⟩
  | 124 => ⟨S_, .f32⟩
  | 125 => ⟨S4096x32x1, .f32⟩
  | 126 => ⟨S4096x32x1, .f32⟩
  | 127 => ⟨S4096x32x1, .f32⟩
  | _ => ⟨S8x32x512x256, .f32⟩

abbrev hbmTy0_2 (i : Nat) : BufTy := match i % 128 with
  | 0 => ⟨S4096x32x256, .f32⟩
  | 1 => ⟨S4096x32x256, .f32⟩
  | 2 => ⟨S1x1x256, .f32⟩
  | 3 => ⟨S4096x32x256, .f32⟩
  | 4 => ⟨S4096x32x256, .f32⟩
  | 5 => ⟨S1x1x256, .f32⟩
  | 6 => ⟨S4096x32x256, .f32⟩
  | 7 => ⟨S4096x32x256, .f32⟩
  | 8 => ⟨S4096x32x1024, .f32⟩
  | 9 => ⟨S1x1x1024, .f32⟩
  | 10 => ⟨S4096x32x1024, .f32⟩
  | 11 => ⟨S4096x32x1024, .f32⟩
  | 12 => ⟨S4096x32x1024, .f32⟩
  | 13 => ⟨S4096x32x1024, .f32⟩
  | 14 => ⟨S_, .f32⟩
  | 15 => ⟨S4096x32x1024, .f32⟩
  | 16 => ⟨S4096x32x1024, .f32⟩
  | 17 => ⟨S4096x32x1024, .f32⟩
  | 18 => ⟨S_, .f32⟩
  | 19 => ⟨S4096x32x1024, .f32⟩
  | 20 => ⟨S4096x32x1024, .f32⟩
  | 21 => ⟨S4096x32x1024, .f32⟩
  | 22 => ⟨S_, .f32⟩
  | 23 => ⟨S4096x32x1024, .f32⟩
  | 24 => ⟨S4096x32x1024, .f32⟩
  | 25 => ⟨S_, .f32⟩
  | 26 => ⟨S4096x32x1024, .f32⟩
  | 27 => ⟨S4096x32x1024, .f32⟩
  | 28 => ⟨S4096x32x1024, .f32⟩
  | 29 => ⟨S4096x32x256, .f32⟩
  | 30 => ⟨S1x1x256, .f32⟩
  | 31 => ⟨S4096x32x256, .f32⟩
  | 32 => ⟨S4096x32x256, .f32⟩
  | 33 => ⟨S4096x32x256, .f32⟩
  | 34 => ⟨S8x512x32x256, .f32⟩
  | 35 => ⟨S8x32x512x256, .f32⟩
  | _ => ⟨S8x32x512x256, .f32⟩

abbrev hbmTy (i : Nat) : BufTy := match i / 128 with
  | 0 => hbmTy0_0 i
  | 1 => hbmTy0_1 i
  | 2 => hbmTy0_2 i
  | _ => ⟨S8x32x512x256, .f32⟩

abbrev bufTy : (tb : Table) → Fin (tcTables nBuf tb) → BufTy
  | .hbm, ⟨i, _⟩ => hbmTy i
  | _, _ => ⟨S8x32x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_cst_8 : Ref sig .tc := ⟨.hbm, 108, rfl⟩
abbrev main_v81 : Ref sig .tc := ⟨.hbm, 109, rfl⟩
abbrev main_v82 : Ref sig .tc := ⟨.hbm, 110, rfl⟩
abbrev main_cst_9 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_10 : Ref sig .tc := ⟨.hbm, 141, rfl⟩
abbrev main_v112 : Ref sig .tc := ⟨.hbm, 142, rfl⟩
abbrev main_v113 : Ref sig .tc := ⟨.hbm, 143, rfl⟩
abbrev main_cst_11 : Ref sig .tc := ⟨.hbm, 144, rfl⟩
abbrev main_v114 : Ref sig .tc := ⟨.hbm, 145, rfl⟩
abbrev main_v115 : Ref sig .tc := ⟨.hbm, 146, rfl⟩
abbrev main_cst_12 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_13 : Ref sig .tc := ⟨.hbm, 176, rfl⟩
abbrev main_v144 : Ref sig .tc := ⟨.hbm, 177, rfl⟩
abbrev main_v145 : Ref sig .tc := ⟨.hbm, 178, rfl⟩
abbrev main_cst_14 : Ref sig .tc := ⟨.hbm, 179, rfl⟩
abbrev main_v146 : Ref sig .tc := ⟨.hbm, 180, rfl⟩
abbrev main_v147 : Ref sig .tc := ⟨.hbm, 181, rfl⟩
abbrev main_cst_15 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_16 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_17 : Ref sig .tc := ⟨.hbm, 213, rfl⟩
abbrev main_v177 : Ref sig .tc := ⟨.hbm, 214, rfl⟩
abbrev main_cst_18 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_cst_19 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_cst_20 : Ref sig .tc := ⟨.hbm, 235, rfl⟩
abbrev main_v196 : Ref sig .tc := ⟨.hbm, 236, rfl⟩
abbrev main_v197 : Ref sig .tc := ⟨.hbm, 237, rfl⟩
abbrev main_cst_21 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_cst_22 : Ref sig .tc := ⟨.hbm, 244, rfl⟩
abbrev main_v203 : Ref sig .tc := ⟨.hbm, 245, rfl⟩
abbrev main_v204 : Ref sig .tc := ⟨.hbm, 246, rfl⟩
abbrev main_cst_23 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_cst_24 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_cst_25 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_cst_26 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_cst_27 : Ref sig .tc := ⟨.hbm, 278, rfl⟩
abbrev main_v232 : Ref sig .tc := ⟨.hbm, 279, rfl⟩
abbrev main_v233 : Ref sig .tc := ⟨.hbm, 280, rfl⟩
abbrev main_cst_28 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩

abbrev nD : Nat := 1
abbrev τ : Topo := Topo.v7x

variable {F : FTy → Type} [FloatOps F]
-- ==== Proof.Spec.lean ====
/- The transformer block over the real numbers, one position of the sequence at a time: thirty-two tokens of 256
   features. Both programs are shown to compute these functions (up to the second layer norm's scale, from which on the
   values are extended reals). -/
module

public import Idealize.ShloMosaic.PureOps.Ideal

@[expose] public section

noncomputable section

namespace Cert.Spec

open Finset

/-- What both programs add to a variance: the binary fraction nearest `1e-5`. -/
def eps : ℝ := 10995116 / 1099511627776

theorem eps_pos : 0 < eps := by norm_num [eps]

/-- The mean of a row. -/
def mean (x : Fin 256 → ℝ) : ℝ := (∑ d, x d) / 256

/-- The variance of a row: the mean of the squared distances to the mean. -/
def var (x : Fin 256 → ℝ) : ℝ := (∑ d, (x d - mean x) * (x d - mean x)) / 256

theorem var_nonneg (x : Fin 256 → ℝ) : 0 ≤ var x :=
  div_nonneg (sum_nonneg fun d _ => mul_self_nonneg _) (by norm_num)

theorem var_eps_pos (x : Fin 256 → ℝ) : 0 < var x + eps := add_pos_of_nonneg_of_pos (var_nonneg x) eps_pos

/-- The variance is the mean of the squares less the square of the mean. -/
theorem var_eq (x : Fin 256 → ℝ) : (∑ d, x d * x d) / 256 - mean x * mean x = var x := by
  have h : ∑ d, (x d - mean x) * (x d - mean x) = ∑ d, x d * x d - 2 * mean x * ∑ d, x d + 256 * (mean x * mean x) := by
    have : ∀ d, (x d - mean x) * (x d - mean x) = x d * x d - 2 * mean x * x d + mean x * mean x := fun d => by ring
    simp only [this, sum_add_distrib, sum_sub_distrib, ← mul_sum, sum_const, card_univ, Fintype.card_fin, nsmul_eq_mul]
    push_cast
    ring
  have hs : ∑ d, x d = 256 * mean x := by unfold mean; ring
  rw [var, h, hs]; ring

/-- A row less its mean, over its standard deviation. -/
def unitRow (x : Fin 256 → ℝ) (d : Fin 256) : ℝ := (x d - mean x) / Real.sqrt (var x + eps)

/-- The layer norm. -/
def norm (x g b : Fin 256 → ℝ) (d : Fin 256) : ℝ := unitRow x d * g d + b d

/-- A linear map with a bias. -/
def lin (w : Fin 256 → Fin 256 → ℝ) (b l : Fin 256 → ℝ) (n : Fin 256) : ℝ := ∑ d, l d * w d n + b n

/-- The frequency of a lane. -/
def freq (n : Fin 256) : ℝ := Real.exp (((n.val % 8 : ℕ) : ℝ) * -(Real.log 10000 * 8⁻¹))

/-- The frequency as a power of `10000`. -/
theorem freq_eq (k : ℕ) : Real.exp ((k : ℝ) * -(Real.log 10000 * 8⁻¹)) = 1 / Real.rpow 10000 ((k : ℝ) / 8) := by
  change _ = 1 / ((10000 : ℝ) ^ ((k : ℝ) / 8))
  rw [Real.rpow_def_of_pos (by norm_num), one_div, ← Real.exp_neg]
  congr 1; ring

/-- The angle of a lane: the first sixteen lanes of a head turn with the first coordinate, the others with the second. -/
def angle (p : Fin 2 → ℝ) (n : Fin 256) : ℝ := p (if n.val % 32 < 16 then 0 else 1) * freq n

/-- The rotation: lanes `n` and `n + 8` of a group of sixteen are turned together. -/
def rope (a t : Fin 256 → ℝ) (n : Fin 256) : ℝ :=
  t n * Real.cos (a n) +
    if h : n.val % 16 < 8 then -(t ⟨n + 8, by omega⟩ * Real.sin (a n)) else t ⟨n - 8, by omega⟩ * Real.sin (a n)

theorem rope_smul (a t : Fin 256 → ℝ) (σ : ℝ) (n : Fin 256) : rope a (fun m => σ * t m) n = σ * rope a t n := by
  unfold rope; split_ifs <;> ring

/-- Lane `e` of head `h`. -/
def lane (h : Fin 8) (e : Fin 32) : Fin 256 := ⟨h * 32 + e, by omega⟩

/-- The head of a lane. -/
def headIx (n : Fin 256) : Fin 8 := ⟨n / 32, by omega⟩

/-- A score: the product of a query and a key over the square root of their length. -/
def score (q k : Fin 256 → ℝ) (h : Fin 8) : ℝ := (∑ e, q (lane h e) * k (lane h e)) / Real.sqrt 32

/-- The attention of one token: the values' mean weighted by the scores' exponentials. -/
def attend (q : Fin 256 → ℝ) (k v : Fin 32 → Fin 256 → ℝ) (n : Fin 256) : ℝ :=
  (∑ c, Real.exp (score q (k c) (headIx n)) * v c n) / ∑ c, Real.exp (score q (k c) (headIx n))

theorem denom_pos (f : Fin 32 → ℝ) : 0 < ∑ c, Real.exp (f c) :=
  sum_pos (fun c _ => Real.exp_pos _) ⟨0, mem_univ _⟩

/-- A softmax may be taken from any point: the weights do not change. -/
theorem softmax_shift (f v : Fin 32 → ℝ) (M : ℝ) :
    ∑ c, Real.exp (f c - M) / (∑ c', Real.exp (f c' - M)) * v c
      = (∑ c, Real.exp (f c) * v c) / ∑ c, Real.exp (f c) := by
  have hM := Real.exp_pos (-M)
  have hd := denom_pos f
  simp only [sub_eq_add_neg, Real.exp_add, ← sum_mul]
  rw [sum_div]
  refine sum_congr rfl fun c _ => ?_
  field_simp

/-- The exponential to base 2 of a score scaled by `log₂ e` is the exponential of the score. -/
theorem exp2_scaled (y : ℝ) : Real.rpow 2 ((Real.log 2)⁻¹ * (Real.sqrt 32)⁻¹ * y) = Real.exp (y / Real.sqrt 32) := by
  change (2 : ℝ) ^ ((Real.log 2)⁻¹ * (Real.sqrt 32)⁻¹ * y) = _
  rw [Real.rpow_def_of_pos (by norm_num)]
  have : Real.log 2 ≠ 0 := (Real.log_pos (by norm_num)).ne'
  congr 1
  field_simp

/-- The weights of the block up to the attention's output projection. -/
structure Weights where
  wq : Fin 256 → Fin 256 → ℝ
  bq : Fin 256 → ℝ
  wk : Fin 256 → Fin 256 → ℝ
  bk : Fin 256 → ℝ
  wv : Fin 256 → Fin 256 → ℝ
  bv : Fin 256 → ℝ
  wo : Fin 256 → Fin 256 → ℝ
  bo : Fin 256 → ℝ
  g : Fin 256 → ℝ
  b : Fin 256 → ℝ

variable (W : Weights) (x : Fin 32 → Fin 256 → ℝ) (p : Fin 32 → Fin 2 → ℝ)

/-- The normed row of a token. -/
def l (c : Fin 32) : Fin 256 → ℝ := norm (x c) W.g W.b

/-- The turned query of a token. -/
def q (c : Fin 32) : Fin 256 → ℝ := rope (angle (p c)) (lin W.wq W.bq (l W x c))

/-- The turned key of a token. -/
def k (c : Fin 32) : Fin 256 → ℝ := rope (angle (p c)) (lin W.wk W.bk (l W x c))

/-- The value of a token. -/
def v (c : Fin 32) : Fin 256 → ℝ := lin W.wv W.bv (l W x c)

/-- The attention of a token. -/
def o (c : Fin 32) : Fin 256 → ℝ := attend (q W x p c) (k W x p) (v W x)

/-- The row of a token after the attention. -/
def src (c : Fin 32) (n : Fin 256) : ℝ := x c n + ∑ d, o W x p c d * W.wo d n + W.bo n

end Cert.Spec

end
-- ==== Proof.Ext.lean ====
/- Facts about the extended reals that the stages of both programs use: sums, quotients and maxima of reals are reals. -/
module

public import proofs.«01_k».proof.Proof.Spec

@[expose] public section

noncomputable section

namespace Cert.Ext

open Finset Idealize.ShloMosaic

/-- A sum of reals is a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum whose terms are reals, given one by one, is a real. -/
theorem sum_eq {ι : Type} [Fintype ι] {f : ι → EReal} {g : ι → ℝ} (h : ∀ i, f i = (g i : EReal)) :
    ∑ i, f i = ((∑ i, g i : ℝ) : EReal) := by
  rw [← coe_sum]; exact sum_congr rfl fun i _ => h i

/-- A quotient of reals is a real where the divisor is not zero. -/
theorem div_real {x y : ℝ} (h : y ≠ 0) : Ideal.div (x : EReal) (y : EReal) = ((x / y : ℝ) : EReal) := by
  rw [Ideal.div_coe h, ← EReal.coe_mul, mul_one_div]

/-- The square root of a real that is not negative. -/
theorem sqrt_real {x : ℝ} (h : 0 ≤ x) : Ideal.sqrt (x : EReal) = ((Real.sqrt x : ℝ) : EReal) := by
  rw [Ideal.sqrt_coe, if_neg h.not_gt]

/-- The reciprocal square root of a positive real. -/
theorem rsqrt_real {x : ℝ} (h : 0 < x) : Ideal.rsqrt (x : EReal) = (((Real.sqrt x)⁻¹ : ℝ) : EReal) := by
  rw [Ideal.rsqrt_coe, if_neg h.not_gt, if_neg h.ne']

/-- The greatest of finitely many reals, at least one, is a real. -/
theorem fold_max_real {n : ℕ} (f : Fin (n + 1) → EReal) (g : Fin (n + 1) → ℝ) (h : ∀ i, f i = (g i : EReal)) :
    ∃ M : ℝ, (univ.fold max ⊥ f : EReal) = (M : EReal) := by
  obtain ⟨i, -, hi⟩ := exists_mem_eq_sup univ ⟨0, mem_univ (0 : Fin (n + 1))⟩ f
  refine ⟨g i, ?_⟩
  rw [← h i, ← hi]
  rfl

/-- A real, and its value as an extended real. -/
theorem coe_toReal_of_lt {x : EReal} (h : max x (-x) < ⊤) : ((x.toReal : ℝ) : EReal) = x := by
  refine EReal.coe_toReal (fun e => ?_) (fun e => ?_)
  · rw [e] at h; simp at h
  · rw [e] at h; simp at h

/-- Of 256 rows, a sum over those whose number is `s` modulo 8 is a sum over thirty-two. -/
theorem sum_masked (f : Fin 256 → EReal) (s : Fin 8) :
    ∑ r : Fin 256, (if r.val % 8 = s.val then f r else 0) = ∑ c : Fin 32, f ⟨c * 8 + s, by omega⟩ := by
  let e : Fin 32 × Fin 8 ≃ Fin 256 :=
    { toFun := fun a => ⟨a.1 * 8 + a.2, by have := a.1.2; have := a.2.2; omega⟩
      invFun := fun r => (⟨r / 8, by omega⟩, ⟨r % 8, by omega⟩)
      left_inv := fun a => by
        rcases a with ⟨⟨a, _⟩, ⟨b, _⟩⟩
        ext <;> simp <;> omega
      right_inv := fun r => by ext; simp; omega }
  rw [← Equiv.sum_comp e, Fintype.sum_prod_type]
  refine sum_congr rfl fun c _ => ?_
  rw [sum_eq_single s]
  · rw [if_pos]; · rfl
    show (c.val * 8 + s.val) % 8 = s.val; omega
  · intro b _ hb
    rw [if_neg]
    show ¬ (c.val * 8 + b.val) % 8 = s.val
    have : b.val ≠ s.val := fun h => hb (Fin.ext h)
    omega
  · intro h; exact absurd (mem_univ _) h

end Cert.Ext

end
-- ==== Proof.Consts.lean ====
/- The values of the programs' constants. -/
module

public import proofs.«01_k».proof.KernelIdeal
public import proofs.«01_k».proof.Proof.Ext

@[expose] public section

noncomputable section

namespace Cert.Consts

open Idealize.ShloMosaic

theorem eps32 : Ideal.ofBits .f32 0x3727C5AC#32 = ((Spec.eps : ℝ) : EReal) := by
  simp [Ideal.ofBits, Ideal.ieee, -EReal.coe_mul, Spec.eps]; norm_num

theorem c256 : Ideal.ofBits .f32 0x43800000#32 = ((256 : ℝ) : EReal) := by
  simp [Ideal.ofBits, Ideal.ieee, -EReal.coe_mul]; norm_num

theorem c32 : Ideal.ofBits .f32 0x42000000#32 = ((32 : ℝ) : EReal) := by
  simp [Ideal.ofBits, Ideal.ieee, -EReal.coe_mul]; norm_num

theorem c8 : Ideal.ofBits .f32 0x41000000#32 = ((8 : ℝ) : EReal) := by
  simp [Ideal.ofBits, Ideal.ieee, -EReal.coe_mul]; norm_num

theorem c10000 : Ideal.ofBits .f32 0x461C4000#32 = ((10000 : ℝ) : EReal) := by
  simp [Ideal.ofBits, Ideal.ieee, -EReal.coe_mul]; norm_num

theorem half32 : Ideal.ofBits .f32 0x3F000000#32 = ((1 / 2 : ℝ) : EReal) := by
  simp [Ideal.ofBits, Ideal.ieee, -EReal.coe_mul]; norm_num

theorem half16 : Ideal.ofBits .bf16 0x3F00#16 = ((1 / 2 : ℝ) : EReal) := by
  simp [Ideal.ofBits, Ideal.ieee, -EReal.coe_mul]; norm_num

theorem one16 : Ideal.ofBits .bf16 0x3F80#16 = 1 := by
  simp [Ideal.ofBits, Ideal.ieee, -EReal.coe_mul]; norm_num

theorem one32 : Ideal.ofBits .f32 0x3F800000#32 = 1 := by
  simp [Ideal.ofBits, Ideal.ieee, -EReal.coe_mul]; norm_num

theorem inv256 : Ideal.ofBits .f32 0x3B800000#32 = ((1 / 256 : ℝ) : EReal) := by
  simp [Ideal.ofBits, Ideal.ieee, -EReal.coe_mul]; norm_num

theorem negOne : Ideal.ofBits .f32 0xBF800000#32 = ((-1 : ℝ) : EReal) := by
  simp [Ideal.ofBits, Ideal.ieee, -EReal.coe_mul, -EReal.coe_neg]; norm_num

theorem negInf : Ideal.ofBits .f32 0xFF800000#32 = ⊥ := by
  simp [Ideal.ofBits, Ideal.ieee, -EReal.coe_mul]

theorem posInf : Ideal.ofBits .f32 0x7F800000#32 = ⊤ := by
  simp [Ideal.ofBits, Ideal.ieee, -EReal.coe_mul]

theorem gelu_c : Ideal.ofBits .f32 0x3F4C422A#32 = ((6693141 / 8388608 : ℝ) : EReal) := by
  simp [Ideal.ofBits, Ideal.ieee, -EReal.coe_mul]; norm_num

theorem gelu_a : Ideal.ofBits .f32 0x3D372713#32 = ((12003091 / 268435456 : ℝ) : EReal) := by
  simp [Ideal.ofBits, Ideal.ieee, -EReal.coe_mul]; norm_num

/-- The scale of the queries: `log₂ e` over the root of the head's width. -/
def scale : ℝ := (Real.log 2)⁻¹ * (Real.sqrt 32)⁻¹

theorem named_mask : (Named.named KernelIdeal.κ "mask" (φ := .f32) 0xCE6E6B28#32 : Ideal .f32) = (⊥ : EReal) := rfl

theorem named_freq :
    (Named.named KernelIdeal.κ "freq" (φ := .f32) 0xBF935D8E#32 : Ideal .f32) = ((-(Real.log 10000 * 8⁻¹) : ℝ) : EReal) := rfl

theorem named_scale : (Named.named KernelIdeal.κ "scale" (φ := .f32) 0x3E8293EE#32 : Ideal .f32) = ((scale : ℝ) : EReal) := rfl

theorem named_gelu_c :
    (Named.named KernelIdeal.κ "gelu_c" (φ := .bf16) 0x3F4C#16 : Ideal .bf16) = ((6693141 / 8388608 : ℝ) : EReal) := rfl

theorem named_gelu_a :
    (Named.named KernelIdeal.κ "gelu_a" (φ := .bf16) 0x3D37#16 : Ideal .bf16) = ((12003091 / 268435456 : ℝ) : EReal) := rfl

end Cert.Consts

end
-- ==== Proof.Mlp.lean ====
/- The second half of the block, from the rows after the attention (reals) on: the layer norm's scale and shift, the
   hidden layer, the gelu and the output, as extended reals, so that nothing is asked of these weights. -/
module

public import proofs.«01_k».proof.Proof.Consts

@[expose] public section

noncomputable section

namespace Cert.Spec

open Idealize.ShloMosaic

/-- The tanh form of the gelu. -/
def gelu (x : EReal) : EReal :=
  ((1 / 2 : ℝ) : EReal) * x *
    (1 + Ideal.tanh (((6693141 / 8388608 : ℝ) : EReal) * (x + ((12003091 / 268435456 : ℝ) : EReal) * (x * x * x))))

/-- The weights of the second half. -/
structure Tail where
  g : Fin 256 → EReal
  b : Fin 256 → EReal
  w1 : Fin 256 → Fin 1024 → EReal
  c1 : Fin 1024 → EReal
  w2 : Fin 1024 → Fin 256 → EReal
  c2 : Fin 256 → EReal

/-- The hidden layer before its activation. -/
def hidden (T : Tail) (y : Fin 256 → ℝ) (f : Fin 1024) : EReal :=
  ∑ d, ((unitRow y d : EReal) * T.g d + T.b d) * T.w1 d f + T.c1 f

/-- The row after the multilayer perceptron. -/
def mlp (T : Tail) (y : Fin 256 → ℝ) (n : Fin 256) : EReal :=
  (y n : EReal) + (∑ f, gelu (hidden T y f) * T.w2 f n + T.c2 n)

/-- One entry of the block's result, of token `c` at a position. -/
def block (W : Weights) (T : Tail) (x : Fin 32 → Fin 256 → ℝ) (p : Fin 32 → Fin 2 → ℝ) (c : Fin 32) (n : Fin 256) : EReal :=
  mlp T (src W x p c) n

end Cert.Spec

end
-- ==== Proof.Args.lean ====
/- The eighteen argument arrays, and the block's result as one function of them: what both programs return. -/
module

public import proofs.«01_k».proof.Proof.Mlp
public import Idealize.ShloMosaic.Lib.Pointwise

@[expose] public section

noncomputable section

namespace Cert

open Idealize.ShloMosaic

/-- The argument arrays, over the extended reals. -/
structure Args where
  x : FVec Ideal (⟨4, ![8, 32, 512, 256]⟩ : Shape) .f32
  pos : FVec Ideal (⟨4, ![8, 32, 512, 2]⟩ : Shape) .f32
  wq : FVec Ideal (⟨2, ![256, 256]⟩ : Shape) .f32
  bq : FVec Ideal (⟨1, ![256]⟩ : Shape) .f32
  wk : FVec Ideal (⟨2, ![256, 256]⟩ : Shape) .f32
  bk : FVec Ideal (⟨1, ![256]⟩ : Shape) .f32
  wv : FVec Ideal (⟨2, ![256, 256]⟩ : Shape) .f32
  bv : FVec Ideal (⟨1, ![256]⟩ : Shape) .f32
  wo : FVec Ideal (⟨2, ![256, 256]⟩ : Shape) .f32
  bo : FVec Ideal (⟨1, ![256]⟩ : Shape) .f32
  g1 : FVec Ideal (⟨1, ![256]⟩ : Shape) .f32
  b1 : FVec Ideal (⟨1, ![256]⟩ : Shape) .f32
  g2 : FVec Ideal (⟨1, ![256]⟩ : Shape) .f32
  b2 : FVec Ideal (⟨1, ![256]⟩ : Shape) .f32
  w1 : FVec Ideal (⟨2, ![256, 1024]⟩ : Shape) .f32
  c1 : FVec Ideal (⟨1, ![1024]⟩ : Shape) .f32
  w2 : FVec Ideal (⟨2, ![1024, 256]⟩ : Shape) .f32
  c2 : FVec Ideal (⟨1, ![256]⟩ : Shape) .f32

namespace Args

/-- Every entry of an array is a real. -/
def Real {s : Shape} (a : FVec Ideal s .f32) : Prop := ∀ i, a i = ((EReal.toReal (a i) : ℝ) : EReal)

/-- The arrays up to the attention's output projection hold reals. -/
structure Finite (A : Args) : Prop where
  x : Real A.x
  pos : Real A.pos
  wq : Real A.wq
  bq : Real A.bq
  wk : Real A.wk
  bk : Real A.bk
  wv : Real A.wv
  bv : Real A.bv
  wo : Real A.wo
  bo : Real A.bo
  g1 : Real A.g1
  b1 : Real A.b1

variable (A : Args)

/-- The weights up to the attention's output projection. -/
def weights : Spec.Weights where
  wq d n := EReal.toReal (A.wq (ix2 d n))
  bq n := EReal.toReal (A.bq (ix1 n))
  wk d n := EReal.toReal (A.wk (ix2 d n))
  bk n := EReal.toReal (A.bk (ix1 n))
  wv d n := EReal.toReal (A.wv (ix2 d n))
  bv n := EReal.toReal (A.bv (ix1 n))
  wo d n := EReal.toReal (A.wo (ix2 d n))
  bo n := EReal.toReal (A.bo (ix1 n))
  g n := EReal.toReal (A.g1 (ix1 n))
  b n := EReal.toReal (A.b1 (ix1 n))

/-- The weights of the second half. -/
def tail : Spec.Tail where
  g n := A.g2 (ix1 n)
  b n := A.b2 (ix1 n)
  w1 d f := A.w1 (ix2 d f)
  c1 f := A.c1 (ix1 f)
  w2 f n := A.w2 (ix2 f n)
  c2 n := A.c2 (ix1 n)

/-- The tokens at a position of the sequence. -/
def tokens (b : Fin 8) (s : Fin 512) (c : Fin 32) (d : Fin 256) : ℝ := EReal.toReal (A.x (ix4 b c s d))

/-- Their coordinates. -/
def coords (b : Fin 8) (s : Fin 512) (c : Fin 32) (e : Fin 2) : ℝ := EReal.toReal (A.pos (ix4 b c s e))

/-- One entry of the result: of sequence `b`, token `c`, position `s` and lane `n`. -/
def entry (b : Fin 8) (c : Fin 32) (s : Fin 512) (n : Fin 256) : EReal :=
  Spec.block A.weights A.tail (A.tokens b s) (A.coords b s) c n

/-- The result array. -/
def result : FVec Ideal (⟨4, ![8, 32, 512, 256]⟩ : Shape) .f32 := fun i => A.entry (i 0) (i 1) (i 2) (i 3)

/-- The result array at an index given by its coordinates. -/
theorem result_at (i : (⟨4, ![8, 32, 512, 256]⟩ : Shape).Idx) (b : Fin 8) (c : Fin 32) (s : Fin 512) (n : Fin 256)
    (h0 : (i 0 : ℕ) = b) (h1 : (i 1 : ℕ) = c) (h2 : (i 2 : ℕ) = s) (h3 : (i 3 : ℕ) = n) : A.result i = A.entry b c s n := by
  obtain rfl : i 0 = b := Fin.ext h0
  obtain rfl : i 1 = c := Fin.ext h1
  obtain rfl : i 2 = s := Fin.ext h2
  obtain rfl : i 3 = n := Fin.ext h3
  rfl

end Args

end Cert

end
-- ==== Proof.Finite.lean ====
/- What the precondition says of the arguments: those it names hold reals. -/
module

public import proofs.«01_k».proof.Pre_finite_to_attention
public import proofs.«01_k».proof.Proof.Args
public import Idealize.ShloMosaic.Lib.ReduceAll
public import Idealize.ShloMosaic.Lib.Pointwise.Select

@[expose] public section

noncomputable section

namespace Cert.Pre_finite_to_attention

open Idealize.ShloMosaic

/-- The precondition's own side conditions. -/
theorem facts : Facts where
  bcast_S_S8x32x512x256 := by decide
  reducesTo_S8x32x512x256_S_d0_1_2_3 := by decide
  h_S_ := by decide
  bcast_S_S8x32x512x2 := by decide
  reducesTo_S8x32x512x2_S_d0_1_2_3 := by decide
  bcast_S_S256x256 := by decide
  reducesTo_S256x256_S_d0_1 := by decide
  bcast_S_S256 := by decide
  reducesTo_S256_S_d0 := by decide

instance : Subsingleton S_.Idx := ⟨fun i j => funext fun k => k.elim0⟩

/-- An array all of whose magnitudes lie below infinity holds reals. -/
theorem real_of_all {s : Shape} (a : FVec Ideal s .f32) {dims : List (Fin s.rank)} (hb : S_.BroadcastsInDim s (![] : Fin 0 → Fin s.rank))
    (hr : s.ReducesTo dims S_) (hu : 0 < S_.numel) (j : S_.Idx)
    (h : Host.reduce IntOp.andi (cmpf .olt (Host.absf a) (broadcastInDim s ![] hb (constant S_ .f32 0x7F800000#32)))
      (constantI S_ 1 1#1) hr hu j = 1#1) : Args.Real a := fun i => by
  have e : Ideal.cmp .olt (max (a i) (-(a i))) (Ideal.ofBits .f32 0x7F800000#32) = 1#1 := Host.reduce_andi_all _ _ hr hu j h i
  rw [Consts.posInf] at e
  exact (Ext.coe_toReal_of_lt ((Ideal.cmp_olt_eq_one _ _).1 e)).symm

/-- The precondition over the arrays of `A`. -/
def Holds [Facts] (A : Args) : Prop :=
  fn (F := Ideal) A.x A.pos A.wq A.bq A.wk A.bk A.wv A.bv A.wo A.bo A.g1 A.b1 A.g2 A.b2 A.w1 A.c1 A.w2 A.c2 = fun _ => 1#1

/-- Under the precondition the arrays up to the output projection hold reals. -/
theorem finite [Facts] (A : Args) (h : Holds A) : A.Finite := by
  let j : S_.Idx := fun k => k.elim0
  have e := congrFun h j
  obtain ⟨e, b1⟩ := IntOp.andi_eq_one.1 e
  obtain ⟨e, g1⟩ := IntOp.andi_eq_one.1 e
  obtain ⟨e, bo⟩ := IntOp.andi_eq_one.1 e
  obtain ⟨e, wo⟩ := IntOp.andi_eq_one.1 e
  obtain ⟨e, bv⟩ := IntOp.andi_eq_one.1 e
  obtain ⟨e, wv⟩ := IntOp.andi_eq_one.1 e
  obtain ⟨e, bk⟩ := IntOp.andi_eq_one.1 e
  obtain ⟨e, wk⟩ := IntOp.andi_eq_one.1 e
  obtain ⟨e, bq⟩ := IntOp.andi_eq_one.1 e
  obtain ⟨e, wq⟩ := IntOp.andi_eq_one.1 e
  obtain ⟨x, pos⟩ := IntOp.andi_eq_one.1 e
  exact ⟨real_of_all A.x _ _ _ j x, real_of_all A.pos _ _ _ j pos, real_of_all A.wq _ _ _ j wq, real_of_all A.bq _ _ _ j bq,
    real_of_all A.wk _ _ _ j wk, real_of_all A.bk _ _ _ j bk, real_of_all A.wv _ _ _ j wv, real_of_all A.bv _ _ _ j bv,
    real_of_all A.wo _ _ _ j wo, real_of_all A.bo _ _ _ j bo, real_of_all A.g1 _ _ _ j g1, real_of_all A.b1 _ _ _ j b1⟩

end Cert.Pre_finite_to_attention

end
-- ==== Proof.Frames.lean ====
/- The frames of the three programs and the ledger of the named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Finite
public import Idealize.ShloMosaic.Adequacy
public import Idealize.ShloMosaic.Init

@[expose] public section

noncomputable section

namespace Cert.Claims

open Idealize.ShloMosaic Idealize.SL.Sem

/-- The kernel on floats ends with its arguments as they were and its counters at zero. -/
theorem frame_kernel : Cert.quiescent_Kernel := fun m ρ _ => Cert.Kernel.Gen.frame m ρ

/-- So does the kernel on the extended reals. -/
theorem frame_ideal : Cert.quiescent_KernelIdeal := fun m ρ _ => Cert.KernelIdeal.Gen.frame m ρ

/-- The same of the memories that the precondition admits. -/
theorem frame_ideal_pre : Cert.quiescent_KernelIdeal_pre_finite_to_attention (hPre_finite_to_attention := Pre_finite_to_attention.facts) :=
  fun m ρ _ => Cert.KernelIdeal.Gen.frame m ρ

/-- So does the reference on the extended reals, which has no counter. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same of the memories that the precondition admits. -/
theorem frame_reference_pre :
    Cert.quiescent_ReferenceIdeal_pre_finite_to_attention (hPre_finite_to_attention := Pre_finite_to_attention.facts) :=
  fun m ρ _ => frame_reference m ρ trivial

/-- Each named constant has the value that the table gives to its name. -/
theorem preserves : Cert.preserves_Kernel_KernelIdeal :=
  ⟨IdealRules.named_const.statement Cert.KernelIdeal.κ "mask" .f32 0xCE6E6B28#32 ⊥ rfl,
   IdealRules.named_const.statement Cert.KernelIdeal.κ "freq" .f32 0xBF935D8E#32 ((-((Real.log 10000) * 8⁻¹) : ℝ) : EReal) rfl,
   IdealRules.named_const.statement Cert.KernelIdeal.κ "scale" .f32 0x3E8293EE#32 (((Real.log 2)⁻¹ * (Real.sqrt 32)⁻¹ : ℝ) : EReal) rfl,
   IdealRules.named_const.statement Cert.KernelIdeal.κ "gelu_a" .bf16 0x3D37#16 ((12003091 / 268435456 : ℝ) : EReal) rfl,
   IdealRules.named_const.statement Cert.KernelIdeal.κ "gelu_c" .bf16 0x3F4C#16 ((6693141 / 8388608 : ℝ) : EReal) rfl⟩

end Cert.Claims

end
-- ==== Proof.Tile.lean ====
/- One tile of the kernel: the vector program that the body runs sixteen times at each grid point, on eight positions
   of the sequence and all thirty-two tokens (256 rows), written once in the kernel's own operations and cut into its
   natural stages. No arithmetic is done here. -/
module

public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]

/-- The attention mask: row and column are of the same position when their numbers agree modulo 8. -/
def mask : FVec F S256x256 .bf16 :=
  truncf .bf16 (select
    (cmpi .eq (andi (iota .tc S256x256 32 [0] iota_S256x256_d0_w32) (broadcast S256x256 7#32))
      (andi (iota .tc S256x256 32 [1] iota_S256x256_d1_w32) (broadcast S256x256 7#32)))
    (broadcast S256x256 (Scalar.ofBits .f32 0x00000000#32 : F .f32))
    (broadcast S256x256 (Named.named κ "mask" 0xCE6E6B28#32 : F .f32))) bitsLt_bf16_f32

/-- The lane number. -/
def lane : IVec S1x256 32 := iota .tc S1x256 32 [1] iota_S1x256_d1_w32

/-- The rotary frequency of a lane, whichever coordinate it turns with. -/
def freq : FVec F S1x256 .f32 :=
  exp (mulf (sitofp .f32 (andi lane (broadcast S1x256 7#32)))
    (broadcast S1x256 (Named.named κ "freq" 0xBF935D8E#32 : F .f32)))

/-- The frequencies of the lanes that turn with the first coordinate, zero elsewhere. -/
def freqX : FVec F S1x256 .f32 :=
  select (cmpi .slt (andi lane (broadcast S1x256 31#32)) (broadcast S1x256 16#32)) freq
    (broadcast S1x256 (Scalar.ofBits .f32 0x00000000#32 : F .f32))

/-- The frequencies of the lanes that turn with the second coordinate, zero elsewhere. -/
def freqY : FVec F S1x256 .f32 :=
  select (cmpi .sge (andi lane (broadcast S1x256 31#32)) (broadcast S1x256 16#32)) freq
    (broadcast S1x256 (Scalar.ofBits .f32 0x00000000#32 : F .f32))

/-- The query weights with the softmax scale folded in. -/
def scaledW (w : FVec F S256x256 .f32) : FVec F S256x256 .bf16 :=
  truncf .bf16 (mulf w (broadcast S256x256 (Named.named κ "scale" 0x3E8293EE#32 : F .f32))) bitsLt_bf16_f32

/-- The query bias with the softmax scale folded in. -/
def scaledB (b : FVec F S1x256 .f32) : FVec F S1x256 .f32 :=
  mulf (shapeCast S1x256 b shapeCasts_S1x256_S1x256) (broadcast S1x256 (Named.named κ "scale" 0x3E8293EE#32 : F .f32))

/-- The mean of every row, by the product with a column of `1/256`. -/
def rowMean (js : FVec F S256x1 .bf16) (x : FVec F S256x256 .bf16) : FVec F S256x1 .f32 :=
  matmul dot_S256x256_S256x1_S256x1_1_0_0_1_n_n none x (shapeCast S256x1 js shapeCasts_S256x1_S256x1)
    (constant S256x1 .f32 0x00000000#32)

/-- The layer norm of every row, rounded. -/
def lnorm (js : FVec F S256x1 .bf16) (x : FVec F S256x256 .f32) (g b : FVec F S1x256 .f32) : FVec F S256x256 .bf16 :=
  have xb := truncf .bf16 x bitsLt_bf16_f32
  have m := rowMean js xb
  have v := subf (rowMean js (mulf xb xb)) (mulf m m)
  have rs := rsqrt (addf v (broadcast S256x1 (Scalar.ofBits .f32 0x3727C5AC#32 : F .f32)))
  truncf .bf16 (addf (mulf (mulf (subf x (broadcastTo S256x256 m broadcasts_S256x1_S256x256))
        (broadcastTo S256x256 rs broadcasts_S256x1_S256x256))
      (broadcastTo S256x256 (shapeCast S1x256 g shapeCasts_S1x256_S1x256) broadcasts_S1x256_S256x256))
    (broadcastTo S256x256 (shapeCast S1x256 b shapeCasts_S1x256_S1x256) broadcasts_S1x256_S256x256)) bitsLt_bf16_f32

/-- A linear map of every row, rounded. -/
def lin (l w : FVec F S256x256 .bf16) (b : FVec F S1x256 .f32) : FVec F S256x256 .bf16 :=
  truncf .bf16 (addf (matmul dot_S256x256_S256x256_S256x256_1_0_0_1_n_n none l w
      (constant S256x256 .f32 0x00000000#32))
    (broadcastTo S256x256 b broadcasts_S1x256_S256x256)) bitsLt_bf16_f32

/-- The rotary angle of every row and lane. -/
def angle (p : FVec F S32x8x2 .f32) : FVec F S256x256 .f32 :=
  have pr := shapeCast S256x2 p shapeCasts_S32x8x2_S256x2
  addf
    (mulf (broadcastTo S256x256 (extractStridedSlice S256x1 ![0, 0] pr slices_S256x2_o0_0_S256x1) broadcasts_S256x1_S256x256)
      (broadcastTo S256x256 freqX broadcasts_S1x256_S256x256))
    (mulf (broadcastTo S256x256 (extractStridedSlice S256x1 ![0, 1] pr slices_S256x2_o0_1_S256x1) broadcasts_S256x1_S256x256)
      (broadcastTo S256x256 freqY broadcasts_S1x256_S256x256))

/-- The sine with the signs of a table of lanes. -/
def signedSin (a : FVec F S256x256 .f32) (sg : FVec F S1x256 .f32) : FVec F S256x256 .bf16 :=
  truncf .bf16 (mulf (sin a) (broadcastTo S256x256 sg broadcasts_S1x256_S256x256)) bitsLt_bf16_f32

/-- Every lane turned by its angle: the lane itself by the cosine, the lanes eight above and eight below by the signed
    sines. -/
def rope (a : FVec F S256x256 .f32) (sgl sgr : FVec F S1x256 .f32) (t : FVec F S256x256 .bf16) : FVec F S256x256 .bf16 :=
  have tl := concatenate S256x256 1
    [⟨S256x248, extractStridedSlice S256x248 ![0, 8] t slices_S256x256_o0_8_S256x248⟩,
      ⟨S256x8, extractStridedSlice S256x8 ![0, 0] t slices_S256x256_o0_0_S256x8⟩] concatenates_S256x248_S256x8_S256x256_d1
  have tr := concatenate S256x256 1
    [⟨S256x8, extractStridedSlice S256x8 ![0, 248] t slices_S256x256_o0_248_S256x8⟩,
      ⟨S256x248, extractStridedSlice S256x248 ![0, 0] t slices_S256x256_o0_0_S256x248⟩] concatenates_S256x8_S256x248_S256x256_d1
  addf (addf (mulf t (truncf .bf16 (cos a) bitsLt_bf16_f32)) (mulf tl (signedSin a sgl))) (mulf tr (signedSin a sgr))

/-- One head from its thirty-two lanes of queries, keys and values: the weights `exp2 (score + mask)` against the values
    with a column of ones, and the product with the reciprocal of that column's result. -/
def headOf (q k v : FVec F S256x32 .bf16) : FVec F S256x32 .f32 :=
  have e := exp2 (addf (truncf .bf16 (matmul dot_S256x32_S256x32_S256x256_1_1_0_0_n_n none q k
    (constant S256x256 .f32 0x00000000#32)) bitsLt_bf16_f32) (mask : FVec F S256x256 .bf16))
  have ve := concatenate S256x33 1
    [⟨S256x32, v⟩, ⟨S256x1, (broadcast S256x1 (Scalar.ofBits .bf16 0x3F80#16 : F .bf16) : FVec F S256x1 .bf16)⟩] concatenates_S256x32_S256x1_S256x33_d1
  have o := matmul dot_S256x256_S256x33_S256x33_1_0_0_1_n_n none e ve (constant S256x33 .f32 0x00000000#32)
  mulf (extractStridedSlice S256x32 ![0, 0] o slices_S256x33_o0_0_S256x32)
    (broadcastTo S256x32 (divf (broadcast S256x1 (Scalar.ofBits .f32 0x3F800000#32 : F .f32))
      (extractStridedSlice S256x1 ![0, 32] o slices_S256x33_o0_32_S256x1)) broadcasts_S256x1_S256x32)

/-- The eight heads side by side, rounded. -/
def heads (q k v : FVec F S256x256 .bf16) : FVec F S256x256 .bf16 :=
  truncf .bf16 (concatenate S256x256 1
    [⟨S256x32, headOf (extractStridedSlice S256x32 ![0, 0] q slices_S256x256_o0_0_S256x32)
       (extractStridedSlice S256x32 ![0, 0] k slices_S256x256_o0_0_S256x32)
       (extractStridedSlice S256x32 ![0, 0] v slices_S256x256_o0_0_S256x32)⟩,
     ⟨S256x32, headOf (extractStridedSlice S256x32 ![0, 32] q slices_S256x256_o0_32_S256x32)
       (extractStridedSlice S256x32 ![0, 32] k slices_S256x256_o0_32_S256x32)
       (extractStridedSlice S256x32 ![0, 32] v slices_S256x256_o0_32_S256x32)⟩,
     ⟨S256x32, headOf (extractStridedSlice S256x32 ![0, 64] q slices_S256x256_o0_64_S256x32)
       (extractStridedSlice S256x32 ![0, 64] k slices_S256x256_o0_64_S256x32)
       (extractStridedSlice S256x32 ![0, 64] v slices_S256x256_o0_64_S256x32)⟩,
     ⟨S256x32, headOf (extractStridedSlice S256x32 ![0, 96] q slices_S256x256_o0_96_S256x32)
       (extractStridedSlice S256x32 ![0, 96] k slices_S256x256_o0_96_S256x32)
       (extractStridedSlice S256x32 ![0, 96] v slices_S256x256_o0_96_S256x32)⟩,
     ⟨S256x32, headOf (extractStridedSlice S256x32 ![0, 128] q slices_S256x256_o0_128_S256x32)
       (extractStridedSlice S256x32 ![0, 128] k slices_S256x256_o0_128_S256x32)
       (extractStridedSlice S256x32 ![0, 128] v slices_S256x256_o0_128_S256x32)⟩,
     ⟨S256x32, headOf (extractStridedSlice S256x32 ![0, 160] q slices_S256x256_o0_160_S256x32)
       (extractStridedSlice S256x32 ![0, 160] k slices_S256x256_o0_160_S256x32)
       (extractStridedSlice S256x32 ![0, 160] v slices_S256x256_o0_160_S256x32)⟩,
     ⟨S256x32, headOf (extractStridedSlice S256x32 ![0, 192] q slices_S256x256_o0_192_S256x32)
       (extractStridedSlice S256x32 ![0, 192] k slices_S256x256_o0_192_S256x32)
       (extractStridedSlice S256x32 ![0, 192] v slices_S256x256_o0_192_S256x32)⟩,
     ⟨S256x32, headOf (extractStridedSlice S256x32 ![0, 224] q slices_S256x256_o0_224_S256x32)
       (extractStridedSlice S256x32 ![0, 224] k slices_S256x256_o0_224_S256x32)
       (extractStridedSlice S256x32 ![0, 224] v slices_S256x256_o0_224_S256x32)⟩]
    concatenates_S256x32_S256x32_S256x32_S256x32_S256x32_S256x32_S256x32_S256x32_S256x256_d1) bitsLt_bf16_f32

/-- The hidden layer before its activation, rounded. -/
def hidden (l : FVec F S256x256 .bf16) (w : FVec F S256x1024 .bf16) (b : FVec F S1x1024 .f32) : FVec F S256x1024 .bf16 :=
  truncf .bf16 (addf (matmul dot_S256x256_S256x1024_S256x1024_1_0_0_1_n_n none l
      (shapeCast S256x1024 w shapeCasts_S256x1024_S256x1024) (constant S256x1024 .f32 0x00000000#32))
    (broadcastTo S256x1024 (shapeCast S1x1024 b shapeCasts_S1x1024_S1x1024) broadcasts_S1x1024_S256x1024)) bitsLt_bf16_f32

/-- The tanh form of the gelu. -/
def gelu (x : FVec F S256x1024 .bf16) : FVec F S256x1024 .bf16 :=
  mulf (mulf (broadcast S256x1024 (Scalar.ofBits .bf16 0x3F00#16 : F .bf16)) x)
    (addf (broadcast S256x1024 (Scalar.ofBits .bf16 0x3F80#16 : F .bf16))
      (tanh (mulf (broadcast S256x1024 (Named.named κ "gelu_c" 0x3F4C#16 : F .bf16))
        (addf x (mulf (broadcast S256x1024 (Named.named κ "gelu_a" 0x3D37#16 : F .bf16)) (mulf (mulf x x) x))))))

/-- The rows after the attention: the input rows, the projected heads and the bias. -/
def attended (x0 : FVec F S32x8x256 .f32) (x1 : FVec F S32x8x2 .f32) (js : FVec F S256x1 .bf16) (sgl sgr : FVec F S1x256 .f32)
    (wq : FVec F S256x256 .f32) (bq : FVec F S1x256 .f32) (wk : FVec F S256x256 .bf16) (bk : FVec F S1x256 .f32)
    (wv : FVec F S256x256 .bf16) (bv : FVec F S1x256 .f32) (wo : FVec F S256x256 .bf16) (bo : FVec F S1x256 .f32)
    (g1 b1 : FVec F S1x256 .f32) : FVec F S256x256 .f32 :=
  have x := shapeCast S256x256 x0 shapeCasts_S32x8x256_S256x256
  have l := lnorm js x g1 b1
  have q := lin l (scaledW wq) (scaledB bq)
  have k := lin l (shapeCast S256x256 wk shapeCasts_S256x256_S256x256) (shapeCast S1x256 bk shapeCasts_S1x256_S1x256)
  have v := lin l (shapeCast S256x256 wv shapeCasts_S256x256_S256x256) (shapeCast S1x256 bv shapeCasts_S1x256_S1x256)
  have a := angle x1
  addf (addf x (matmul dot_S256x256_S256x256_S256x256_1_0_0_1_n_n none (heads (rope a sgl sgr q) (rope a sgl sgr k) v)
      (shapeCast S256x256 wo shapeCasts_S256x256_S256x256) (constant S256x256 .f32 0x00000000#32)))
    (broadcastTo S256x256 (shapeCast S1x256 bo shapeCasts_S1x256_S1x256) broadcasts_S1x256_S256x256)

/-- The rows after the multilayer perceptron: those before it, and its result. -/
def fedForward (x : FVec F S256x256 .f32) (js : FVec F S256x1 .bf16) (g2 b2 : FVec F S1x256 .f32)
    (w1 : FVec F S256x1024 .bf16) (c1 : FVec F S1x1024 .f32) (w2 : FVec F S1024x256 .bf16) (c2 : FVec F S1x256 .f32) :
    FVec F S256x256 .f32 :=
  addf x (addf (matmul dot_S256x1024_S1024x256_S256x256_1_0_0_1_n_n none (gelu (hidden (lnorm js x g2 b2) w1 c1))
      (shapeCast S1024x256 w2 shapeCasts_S1024x256_S1024x256) (constant S256x256 .f32 0x00000000#32))
    (broadcastTo S256x256 (shapeCast S1x256 c2 shapeCasts_S1x256_S1x256) broadcasts_S1x256_S256x256))

/-- One tile, from its eight positions of the input to the eight positions that it stores. -/
def tile (x0 : FVec F S32x8x256 .f32) (x1 : FVec F S32x8x2 .f32) (js : FVec F S256x1 .bf16) (sgl sgr : FVec F S1x256 .f32)
    (wq : FVec F S256x256 .f32) (bq : FVec F S1x256 .f32) (wk : FVec F S256x256 .bf16) (bk : FVec F S1x256 .f32)
    (wv : FVec F S256x256 .bf16) (bv : FVec F S1x256 .f32) (wo : FVec F S256x256 .bf16) (bo : FVec F S1x256 .f32)
    (g1 b1 g2 b2 : FVec F S1x256 .f32) (w1 : FVec F S256x1024 .bf16) (c1 : FVec F S1x1024 .f32)
    (w2 : FVec F S1024x256 .bf16) (c2 : FVec F S1x256 .f32) : FVec F S1x32x8x256 .f32 :=
  shapeCast S1x32x8x256 (shapeCast S32x8x256
    (fedForward (attended x0 x1 js sgl sgr wq bq wk bk wv bv wo bo g1 b1) js g2 b2 w1 c1 w2 c2)
    shapeCasts_S256x256_S32x8x256) shapeCasts_S32x8x256_S1x32x8x256

end Cert.KernelIdeal.Block

end
-- ==== Proof.Stores.lean ====
/- What a grid point leaves in the output block: the sixteen tiles' results, each over its own eight positions of the
   input blocks. -/
module

public import proofs.«01_k».proof.Proof.Tile

@[expose] public section

set_option maxRecDepth 65536

noncomputable section

namespace Cert.KernelIdeal.Block

open Cert.KernelIdeal Cert.KernelIdeal.Gen Idealize.ShloMosaic Idealize.ShloMosaic.TcCoe Idealize.SL.Sem

variable {F : FTy → Type} [FloatOps F] [Named F]

section
variable (x0 : Vec F S1x32x128x256 .f32) (x1 : Vec F S1x32x128x2 .f32) (x2 : Vec F S256x1 .bf16)
  (x3 x4 : Vec F S1x256 .f32) (x5 : Vec F S256x256 .f32) (x6 : Vec F S1x256 .f32) (x7 : Vec F S256x256 .bf16)
  (x8 : Vec F S1x256 .f32) (x9 : Vec F S256x256 .bf16) (x10 : Vec F S1x256 .f32) (x11 : Vec F S256x256 .bf16)
  (x12 x13 x14 x15 x16 : Vec F S1x256 .f32) (x17 : Vec F S256x1024 .bf16) (x18 : Vec F S1x1024 .f32)
  (x19 : Vec F S1024x256 .bf16) (x20 : Vec F S1x256 .f32)

/-- Tile number `t` on its own positions of the input blocks (`[8t, 8t + 8)`), every other block whole. -/
def tileAt (n : ℕ) (hx : S32x128x256.Slices ![0, n, 0] S32x8x256) (hp : S32x128x2.Slices ![0, n, 0] S32x8x2) :
    FVec F S1x32x8x256 .f32 :=
  tile (extractStridedSlice S32x8x256 ![0, n, 0] (shapeCast S32x128x256 (View.ld x0 r0_3) shapeCasts_S1x32x128x256_S32x128x256) hx)
    (extractStridedSlice S32x8x2 ![0, n, 0] (shapeCast S32x128x2 (View.ld x1 r0_4) shapeCasts_S1x32x128x2_S32x128x2) hp)
    (View.ld x2 r0_0) (View.ld x3 r0_2) (View.ld x4 r0_2) (View.ld x5 r0_1) (View.ld x6 r0_2) (View.ld x7 r0_1)
    (View.ld x8 r0_2) (View.ld x9 r0_1) (View.ld x10 r0_2) (View.ld x11 r0_1) (View.ld x12 r0_2) (View.ld x13 r0_2)
    (View.ld x14 r0_2) (View.ld x15 r0_2) (View.ld x16 r0_2) (View.ld x17 r0_5) (View.ld x18 r0_6) (View.ld x19 r0_7)
    (View.ld x20 r0_2)

/-- The block's stores, last first. -/
def stores : List (View.Piece (Elt F) S1x32x128x256 .f32) :=
    [⟨r0_23, tileAt x0 x1 x2 x3 x4 x5 x6 x7 x8 x9 x10 x11 x12 x13 x14 x15 x16 x17 x18 x19 x20 120 slices_S32x128x256_o0_120_0_S32x8x256 slices_S32x128x2_o0_120_0_S32x8x2⟩,
      ⟨r0_22, tileAt x0 x1 x2 x3 x4 x5 x6 x7 x8 x9 x10 x11 x12 x13 x14 x15 x16 x17 x18 x19 x20 112 slices_S32x128x256_o0_112_0_S32x8x256 slices_S32x128x2_o0_112_0_S32x8x2⟩,
      ⟨r0_21, tileAt x0 x1 x2 x3 x4 x5 x6 x7 x8 x9 x10 x11 x12 x13 x14 x15 x16 x17 x18 x19 x20 104 slices_S32x128x256_o0_104_0_S32x8x256 slices_S32x128x2_o0_104_0_S32x8x2⟩,
      ⟨r0_20, tileAt x0 x1 x2 x3 x4 x5 x6 x7 x8 x9 x10 x11 x12 x13 x14 x15 x16 x17 x18 x19 x20 96 slices_S32x128x256_o0_96_0_S32x8x256 slices_S32x128x2_o0_96_0_S32x8x2⟩,
      ⟨r0_19, tileAt x0 x1 x2 x3 x4 x5 x6 x7 x8 x9 x10 x11 x12 x13 x14 x15 x16 x17 x18 x19 x20 88 slices_S32x128x256_o0_88_0_S32x8x256 slices_S32x128x2_o0_88_0_S32x8x2⟩,
      ⟨r0_18, tileAt x0 x1 x2 x3 x4 x5 x6 x7 x8 x9 x10 x11 x12 x13 x14 x15 x16 x17 x18 x19 x20 80 slices_S32x128x256_o0_80_0_S32x8x256 slices_S32x128x2_o0_80_0_S32x8x2⟩,
      ⟨r0_17, tileAt x0 x1 x2 x3 x4 x5 x6 x7 x8 x9 x10 x11 x12 x13 x14 x15 x16 x17 x18 x19 x20 72 slices_S32x128x256_o0_72_0_S32x8x256 slices_S32x128x2_o0_72_0_S32x8x2⟩,
      ⟨r0_16, tileAt x0 x1 x2 x3 x4 x5 x6 x7 x8 x9 x10 x11 x12 x13 x14 x15 x16 x17 x18 x19 x20 64 slices_S32x128x256_o0_64_0_S32x8x256 slices_S32x128x2_o0_64_0_S32x8x2⟩,
      ⟨r0_15, tileAt x0 x1 x2 x3 x4 x5 x6 x7 x8 x9 x10 x11 x12 x13 x14 x15 x16 x17 x18 x19 x20 56 slices_S32x128x256_o0_56_0_S32x8x256 slices_S32x128x2_o0_56_0_S32x8x2⟩,
      ⟨r0_14, tileAt x0 x1 x2 x3 x4 x5 x6 x7 x8 x9 x10 x11 x12 x13 x14 x15 x16 x17 x18 x19 x20 48 slices_S32x128x256_o0_48_0_S32x8x256 slices_S32x128x2_o0_48_0_S32x8x2⟩,
      ⟨r0_13, tileAt x0 x1 x2 x3 x4 x5 x6 x7 x8 x9 x10 x11 x12 x13 x14 x15 x16 x17 x18 x19 x20 40 slices_S32x128x256_o0_40_0_S32x8x256 slices_S32x128x2_o0_40_0_S32x8x2⟩,
      ⟨r0_12, tileAt x0 x1 x2 x3 x4 x5 x6 x7 x8 x9 x10 x11 x12 x13 x14 x15 x16 x17 x18 x19 x20 32 slices_S32x128x256_o0_32_0_S32x8x256 slices_S32x128x2_o0_32_0_S32x8x2⟩,
      ⟨r0_11, tileAt x0 x1 x2 x3 x4 x5 x6 x7 x8 x9 x10 x11 x12 x13 x14 x15 x16 x17 x18 x19 x20 24 slices_S32x128x256_o0_24_0_S32x8x256 slices_S32x128x2_o0_24_0_S32x8x2⟩,
      ⟨r0_10, tileAt x0 x1 x2 x3 x4 x5 x6 x7 x8 x9 x10 x11 x12 x13 x14 x15 x16 x17 x18 x19 x20 16 slices_S32x128x256_o0_16_0_S32x8x256 slices_S32x128x2_o0_16_0_S32x8x2⟩,
      ⟨r0_9, tileAt x0 x1 x2 x3 x4 x5 x6 x7 x8 x9 x10 x11 x12 x13 x14 x15 x16 x17 x18 x19 x20 8 slices_S32x128x256_o0_8_0_S32x8x256 slices_S32x128x2_o0_8_0_S32x8x2⟩,
      ⟨r0_8, tileAt x0 x1 x2 x3 x4 x5 x6 x7 x8 x9 x10 x11 x12 x13 x14 x15 x16 x17 x18 x19 x20 0 slices_S32x128x256_o0_0_0_S32x8x256 slices_S32x128x2_o0_0_0_S32x8x2⟩]

set_option maxHeartbeats 2000000 in
/-- What the body leaves in the output block is these sixteen stores. -/
theorem out_eq : out0_21 x0 x1 x2 x3 x4 x5 x6 x7 x8 x9 x10 x11 x12 x13 x14 x15 x16 x17 x18 x19 x20 = View.canon (stores x0 x1 x2 x3 x4 x5 x6 x7 x8 x9 x10 x11 x12 x13 x14 x15 x16 x17 x18 x19 x20) := by
  rfl

end

end Cert.KernelIdeal.Block

end
-- ==== Proof.Rows.lean ====
/- What the kernel's stages compute, row by row, where their operands are reals: the mask, the layer norm, the linear
   maps, the rotary angles and the rotation. -/
module

public import proofs.«01_k».proof.Proof.Tile
public import proofs.«01_k».proof.Proof.Consts
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem Finset

/-- The low three bits of a lane's number are its remainder modulo 8. -/
theorem and_seven (n : ℕ) (h : n < 256) : BitVec.ofNat 32 n &&& 7#32 = BitVec.ofNat 32 (n % 8) := by
  apply BitVec.eq_of_toNat_eq
  simp only [BitVec.toNat_and, BitVec.toNat_ofNat]
  rw [Nat.mod_eq_of_lt (by omega : n < 2 ^ 32), Nat.mod_eq_of_lt (by omega : n % 8 < 2 ^ 32)]
  exact Nat.and_two_pow_sub_one_eq_mod n 3

/-- The low five bits of a lane's number are its remainder modulo 32. -/
theorem and_thirtyone (n : ℕ) (h : n < 256) : BitVec.ofNat 32 n &&& 31#32 = BitVec.ofNat 32 (n % 32) := by
  apply BitVec.eq_of_toNat_eq
  simp only [BitVec.toNat_and, BitVec.toNat_ofNat]
  rw [Nat.mod_eq_of_lt (by omega : n < 2 ^ 32), Nat.mod_eq_of_lt (by omega : n % 32 < 2 ^ 32)]
  exact Nat.and_two_pow_sub_one_eq_mod n 5

/-- A choice by equality of words. -/
theorem select_eq {α : Type} (x y : BitVec 32) (a b : α) :
    Scalar.select (IntOp.cmpi .eq x y) a b = if x = y then a else b := by
  by_cases h : x = y
  · simp [Scalar.select, IntOp.cmpi, h]
  · have h' : (x == y) = false := beq_false_of_ne h
    simp [Scalar.select, IntOp.cmpi, h, h']

/-- The mask at a query and a key. -/
theorem mask_at (r k : Fin 256) :
    (mask : FVec Ideal S256x256 .bf16) (ix2 r k) = if k.val % 8 = r.val % 8 then (0 : EReal) else ⊥ := by
  pointwise [mask, Consts.named_mask]
  rw [select_eq]
  simp only [IntOp.andi, and_seven _ r.2, and_seven _ k.2]
  by_cases h : k.val % 8 = r.val % 8
  · rw [if_pos h, if_pos (by rw [h])]
  · rw [if_neg h, if_neg]
    intro e
    have e' := congrArg BitVec.toNat e
    simp only [BitVec.toNat_ofNat] at e'
    omega

/-- The frequency of a lane. -/
theorem freq_at (n : Fin 256) : (freq : FVec Ideal S1x256 .f32) (ix2 0 n) = ((Spec.freq n : ℝ) : EReal) := by
  pointwise [freq, lane, Consts.named_freq]
  have h : (IntOp.andi (BitVec.ofNat 32 n) 7#32).toInt = ((n.val % 8 : ℕ) : ℤ) := by
    simp only [IntOp.andi, and_seven _ n.2]
    rw [BitVec.toInt_eq_toNat_of_lt] <;> simp only [BitVec.toNat_ofNat] <;> omega
  change Ideal.exp ((((IntOp.andi (BitVec.ofNat 32 n) 7#32).toInt : ℝ) : EReal) * _) = _
  rw [h, ← EReal.coe_mul, Ideal.exp_coe]
  simp only [Spec.freq, Int.cast_natCast]

/-- Which lanes turn with the first coordinate. -/
theorem lane_lt : ∀ n : Fin 256, IntOp.cmpi .slt (IntOp.andi (BitVec.ofNat 32 n) 31#32) 16#32
    = if n.val % 32 < 16 then 1#1 else 0#1 := by decide +kernel

/-- Which lanes turn with the second coordinate. -/
theorem lane_ge : ∀ n : Fin 256, IntOp.cmpi .sge (IntOp.andi (BitVec.ofNat 32 n) 31#32) 16#32
    = if n.val % 32 < 16 then 0#1 else 1#1 := by decide +kernel

theorem freqX_at (n : Fin 256) :
    (freqX : FVec Ideal S1x256 .f32) (ix2 0 n) = (((if n.val % 32 < 16 then Spec.freq n else 0 : ℝ)) : EReal) := by
  pointwise [freqX, lane, freq_at]
  rw [lane_lt]
  split_ifs <;> simp [Scalar.select]

theorem freqY_at (n : Fin 256) :
    (freqY : FVec Ideal S1x256 .f32) (ix2 0 n) = (((if n.val % 32 < 16 then 0 else Spec.freq n : ℝ)) : EReal) := by
  pointwise [freqY, lane, freq_at]
  rw [lane_ge]
  split_ifs <;> simp [Scalar.select]

/-- The angle of a row and a lane. -/
theorem angle_at (p : FVec Ideal S32x8x2 .f32) (P : Fin 256 → Fin 2 → ℝ)
    (hp : ∀ (r : Fin 256) (e : Fin 2), p (ix3 ⟨r / 8, by omega⟩ ⟨r % 8, by omega⟩ e) = (P r e : EReal)) (r n : Fin 256) :
    angle p (ix2 r n) = ((Spec.angle (P r) n : ℝ) : EReal) := by
  pointwise [angle, freqX_at, freqY_at, hp]
  rw [← EReal.coe_mul, ← EReal.coe_mul, ← EReal.coe_add]
  unfold Spec.angle
  split_ifs <;> simp

/-- The mean of a row. -/
theorem rowMean_at (js : FVec Ideal S256x1 .bf16) (hj : ∀ d, js (ix2 d 0) = ((1 / 256 : ℝ) : EReal))
    (x : FVec Ideal S256x256 .bf16) (X : Fin 256 → Fin 256 → ℝ) (hx : ∀ r d, x (ix2 r d) = (X r d : EReal)) (r : Fin 256) :
    rowMean js x (ix2 r 0) = ((Spec.mean (X r) : ℝ) : EReal) := by
  pointwise [rowMean, hj, hx]
  rw [Ext.sum_eq fun d => (EReal.coe_mul _ _).symm, ← sum_mul, Spec.mean, mul_one_div]

/-- The layer norm of a row. -/
theorem lnorm_at (js : FVec Ideal S256x1 .bf16) (hj : ∀ d, js (ix2 d 0) = ((1 / 256 : ℝ) : EReal))
    (x : FVec Ideal S256x256 .f32) (X : Fin 256 → Fin 256 → ℝ) (hx : ∀ r d, x (ix2 r d) = (X r d : EReal))
    (g b : FVec Ideal S1x256 .f32) (r d : Fin 256) :
    lnorm js x g b (ix2 r d) = (Spec.unitRow (X r) d : EReal) * g (ix2 0 d) + b (ix2 0 d) := by
  have h1 := rowMean_at js hj (truncf .bf16 x bitsLt_bf16_f32) X (fun r d => by pointwise [hx]) r
  have h2 := rowMean_at js hj (mulf (truncf .bf16 x bitsLt_bf16_f32) (truncf .bf16 x bitsLt_bf16_f32))
    (fun r d => X r d * X r d) (fun r d => by pointwise [hx]; rw [EReal.coe_mul]) r
  pointwise [lnorm, h1, h2, hx, Consts.eps32]
  rw [← EReal.coe_mul, ← EReal.coe_sub, ← EReal.coe_sub, ← EReal.coe_add,
    show Spec.mean (fun d => X r d * X r d) - Spec.mean (X r) * Spec.mean (X r) = Spec.var (X r) from Spec.var_eq (X r),
    Ext.rsqrt_real (Spec.var_eps_pos _), ← EReal.coe_mul]
  rfl

/-- A linear map of a row. -/
theorem lin_at (l w : FVec Ideal S256x256 .bf16) (b : FVec Ideal S1x256 .f32) (L W : Fin 256 → Fin 256 → ℝ) (B : Fin 256 → ℝ)
    (hl : ∀ r d, l (ix2 r d) = (L r d : EReal)) (hw : ∀ d n, w (ix2 d n) = (W d n : EReal))
    (hb : ∀ n, b (ix2 0 n) = (B n : EReal)) (r n : Fin 256) :
    lin l w b (ix2 r n) = ((Spec.lin W B (L r) n : ℝ) : EReal) := by
  pointwise [lin, hl, hw, hb]
  rw [Ext.sum_eq fun d => (EReal.coe_mul _ _).symm, ← EReal.coe_add]
  rfl

/-- The rotation of a row. -/
theorem rope_at (a : FVec Ideal S256x256 .f32) (A : Fin 256 → Fin 256 → ℝ) (ha : ∀ r n, a (ix2 r n) = (A r n : EReal))
    (sgl sgr : FVec Ideal S1x256 .f32) (hl : ∀ n : Fin 256, sgl (ix2 0 n) = ((if n.val % 16 < 8 then -1 else 0 : ℝ) : EReal))
    (hr : ∀ n : Fin 256, sgr (ix2 0 n) = ((if n.val % 16 < 8 then 0 else 1 : ℝ) : EReal))
    (t : FVec Ideal S256x256 .bf16) (T : Fin 256 → Fin 256 → ℝ) (ht : ∀ r n, t (ix2 r n) = (T r n : EReal))
    (r n : Fin 256) : rope a sgl sgr t (ix2 r n) = ((Spec.rope (A r) (T r) n : ℝ) : EReal) := by
  pointwise [rope, signedSin, ha, hl, hr, ht]
  rw [Ideal.cos_coe, Ideal.sin_coe, ← EReal.coe_mul, ← EReal.coe_mul, ← EReal.coe_mul]
  unfold Spec.rope
  have hn := n.2
  by_cases h : n.val % 16 < 8
  · have h' : n.val < 248 := by omega
    simp only [dif_pos h', dif_pos h, if_pos h]
    have e : (⟨8 + n.val, by omega⟩ : Fin 256) = ⟨n.val + 8, by omega⟩ := Fin.ext (Nat.add_comm _ _)
    rw [e]
    split_ifs <;> (rw [← EReal.coe_mul, ← EReal.coe_mul, ← EReal.coe_add, ← EReal.coe_add]; congr 1; ring)
  · have h' : ¬ n.val < 8 := by omega
    simp only [dif_neg h', dif_neg h, if_neg h]
    split_ifs <;> (rw [← EReal.coe_mul, ← EReal.coe_mul, ← EReal.coe_add, ← EReal.coe_add]; congr 1; ring)

end Cert.KernelIdeal.Block

end
-- ==== Proof.Head.lean ====
/- One head, all heads, and the rows after the attention. The keys of a query are the rows whose number has the same
   remainder modulo 8: the mask sends the others' weights to zero. -/
module

public import proofs.«01_k».proof.Proof.Rows

@[expose] public section

set_option maxRecDepth 16384

noncomputable section

namespace Cert.KernelIdeal.Block

open Cert.KernelIdeal Cert.KernelIdeal.Gen Idealize.ShloMosaic Idealize.ShloMosaic.TcCoe Idealize.SL.Sem Finset

/-- The row of token `c` at the position of row `r`. -/
def row (r : Fin 256) (c : Fin 32) : Fin 256 := ⟨c * 8 + r % 8, by omega⟩

theorem row_self (r : Fin 256) : row r ⟨r / 8, by omega⟩ = r := Fin.ext (by simp only [row]; omega)

/-- The weight of a key: zero where the mask says so. -/
theorem weight_eq (y : ℝ) (p : Prop) [Decidable p] :
    (FloatOps.exp2 (φ := .bf16) ((y : EReal) + if p then (0 : EReal) else ⊥) : Ideal .bf16)
      = if p then ((Real.rpow 2 y : ℝ) : EReal) else (0 : EReal) := by
  change Ideal.exp2 _ = _
  split_ifs
  · rw [add_zero, Ideal.exp2_coe]
  · rw [EReal.add_bot]; rfl

/-- One head. -/
theorem headOf_at (q k v : FVec Ideal S256x32 .bf16) (Q K V : Fin 256 → Fin 32 → ℝ)
    (hq : ∀ r e, q (ix2 r e) = (Q r e : EReal)) (hk : ∀ r e, k (ix2 r e) = (K r e : EReal))
    (hv : ∀ r e, v (ix2 r e) = (V r e : EReal)) (r : Fin 256) (e : Fin 32) :
    headOf q k v (ix2 r e)
      = (((∑ c, Real.rpow 2 (∑ e, Q r e * K (row r c) e) * V (row r c) e)
          / ∑ c, Real.rpow 2 (∑ e, Q r e * K (row r c) e) : ℝ) : EReal) := by
  pointwise [headOf, mask_at, hq, hk, hv]
  have hs : ∀ x, ∑ e', (Q r e' : EReal) * (K x e' : EReal) = ((∑ e', Q r e' * K x e' : ℝ) : EReal) := fun x =>
    Ext.sum_eq fun _ => (EReal.coe_mul _ _).symm
  have hpos : 0 < ∑ c, Real.rpow 2 (∑ e, Q r e * K (row r c) e) :=
    sum_pos (fun c _ => Real.rpow_pos_of_pos (by norm_num) _) ⟨0, mem_univ _⟩
  simp only [hs, weight_eq, ite_mul, zero_mul]
  have s1 := Ext.sum_masked (fun x => ((Real.rpow 2 (∑ e, Q r e * K x e) : ℝ) : EReal) * (V x e : EReal)) ⟨r % 8, by omega⟩
  have s2 := Ext.sum_masked (fun x => ((Real.rpow 2 (∑ e, Q r e * K x e) : ℝ) : EReal)) ⟨r % 8, by omega⟩
  refine (congrArg₂ (fun a b : EReal => a * Ideal.div 1 b) (s1.trans (Ext.sum_eq fun c => (EReal.coe_mul _ _).symm))
    (s2.trans (Ext.sum_eq fun c => rfl))).trans ?_
  change _ * Ideal.div ((1 : ℝ) : EReal) ((∑ c, Real.rpow 2 (∑ e, Q r e * K (row r c) e) : ℝ) : EReal) = _
  rw [Ext.div_real hpos.ne', ← EReal.coe_mul, mul_one_div]
  rfl

/-- The attention of one row over the rows of its position, from scaled queries. -/
def attendRow (Q K V : Fin 256 → Fin 256 → ℝ) (r n : Fin 256) : ℝ :=
  (∑ c, Real.rpow 2 (∑ e, Q r (Spec.lane (Spec.headIx n) e) * K (row r c) (Spec.lane (Spec.headIx n) e)) * V (row r c) n)
    / ∑ c, Real.rpow 2 (∑ e, Q r (Spec.lane (Spec.headIx n) e) * K (row r c) (Spec.lane (Spec.headIx n) e))

/-- The lanes of one head, cut out of all lanes. -/
theorem slice_at (o : ℕ) (h : Fin 8) (ho : o = h * 32) (hs : S256x256.Slices ![0, o] S256x32) (x : FVec Ideal S256x256 .bf16)
    (X : Fin 256 → Fin 256 → ℝ) (hx : ∀ r n, x (ix2 r n) = (X r n : EReal)) (r : Fin 256) (e : Fin 32) :
    extractStridedSlice S256x32 ![0, o] x hs (ix2 r e) = (X r (Spec.lane h e) : EReal) := by
  subst ho
  pointwise [hx]
  rfl

/-- The head that starts at a lane, at the lane's distance from the start. -/
theorem headAt (o : ℕ) (h : ℕ) (h8 : h < 8) (ho : o = h * 32) (hs : S256x256.Slices ![0, o] S256x32) (q k v : FVec Ideal S256x256 .bf16)
    (Q K V : Fin 256 → Fin 256 → ℝ) (hq : ∀ r n, q (ix2 r n) = (Q r n : EReal)) (hk : ∀ r n, k (ix2 r n) = (K r n : EReal))
    (hv : ∀ r n, v (ix2 r n) = (V r n : EReal)) (r n : Fin 256) (e : Fin 32) (hn : n.val = o + e.val) :
    headOf (extractStridedSlice S256x32 ![0, o] q hs) (extractStridedSlice S256x32 ![0, o] k hs)
      (extractStridedSlice S256x32 ![0, o] v hs) (ix2 r e) = (attendRow Q K V r n : EReal) := by
  rw [headOf_at _ _ _ _ _ _ (slice_at o ⟨h, h8⟩ ho hs q Q hq) (slice_at o ⟨h, h8⟩ ho hs k K hk)
    (slice_at o ⟨h, h8⟩ ho hs v V hv)]
  have h1 : Spec.headIx n = ⟨h, h8⟩ := Fin.ext (by simp only [Spec.headIx]; omega)
  have h2 : Spec.lane ⟨h, h8⟩ e = n := Fin.ext (by simp only [Spec.lane]; omega)
  simp only [attendRow, h1, h2]

/-- The heads side by side. -/
theorem heads_at (q k v : FVec Ideal S256x256 .bf16) (Q K V : Fin 256 → Fin 256 → ℝ)
    (hq : ∀ r n, q (ix2 r n) = (Q r n : EReal)) (hk : ∀ r n, k (ix2 r n) = (K r n : EReal))
    (hv : ∀ r n, v (ix2 r n) = (V r n : EReal)) (r n : Fin 256) :
    heads q k v (ix2 r n) = (attendRow Q K V r n : EReal) := by
  have hn := n.2
  pointwise [heads]
  have hd := Nat.div_add_mod n.val 32
  split_ifs <;> refine headAt _ (n.val / 32) (by omega) (by omega) _ q k v Q K V hq hk hv r n ⟨_, _⟩ ?_ <;> simp only <;> omega

/-- With the scale folded into the queries the weights to base 2 are the softmax's weights to base `e`. -/
theorem attendRow_eq (Q K V : Fin 256 → Fin 256 → ℝ) (r n : Fin 256) :
    attendRow (fun r n => Consts.scale * Q r n) K V r n
      = Spec.attend (Q r) (fun c => K (row r c)) (fun c => V (row r c)) n := by
  have h : ∀ c, Real.rpow 2 (∑ e, Consts.scale * Q r (Spec.lane (Spec.headIx n) e) * K (row r c) (Spec.lane (Spec.headIx n) e))
      = Real.exp (Spec.score (Q r) (K (row r c)) (Spec.headIx n)) := fun c => by
    simp only [mul_assoc]
    rw [← mul_sum]
    exact Spec.exp2_scaled _
  simp only [attendRow, Spec.attend, h]

variable (x0 : FVec Ideal S32x8x256 .f32) (x1 : FVec Ideal S32x8x2 .f32) (js : FVec Ideal S256x1 .bf16)
  (sgl sgr : FVec Ideal S1x256 .f32) (wq : FVec Ideal S256x256 .f32) (bq : FVec Ideal S1x256 .f32)
  (wk : FVec Ideal S256x256 .bf16) (bk : FVec Ideal S1x256 .f32) (wv : FVec Ideal S256x256 .bf16)
  (bv : FVec Ideal S1x256 .f32) (wo : FVec Ideal S256x256 .bf16) (bo g1 b1 : FVec Ideal S1x256 .f32)

/-- The operands up to the output projection hold the reals of `W`. -/
structure Holds (W : Spec.Weights) : Prop where
  js : ∀ d, js (ix2 d 0) = ((1 / 256 : ℝ) : EReal)
  sgl : ∀ n : Fin 256, sgl (ix2 0 n) = ((if n.val % 16 < 8 then -1 else 0 : ℝ) : EReal)
  sgr : ∀ n : Fin 256, sgr (ix2 0 n) = ((if n.val % 16 < 8 then 0 else 1 : ℝ) : EReal)
  wq : ∀ d n, wq (ix2 d n) = (W.wq d n : EReal)
  bq : ∀ n, bq (ix2 0 n) = (W.bq n : EReal)
  wk : ∀ d n, wk (ix2 d n) = (W.wk d n : EReal)
  bk : ∀ n, bk (ix2 0 n) = (W.bk n : EReal)
  wv : ∀ d n, wv (ix2 d n) = (W.wv d n : EReal)
  bv : ∀ n, bv (ix2 0 n) = (W.bv n : EReal)
  wo : ∀ d n, wo (ix2 d n) = (W.wo d n : EReal)
  bo : ∀ n, bo (ix2 0 n) = (W.bo n : EReal)
  g : ∀ n, g1 (ix2 0 n) = (W.g n : EReal)
  b : ∀ n, b1 (ix2 0 n) = (W.b n : EReal)

/-- The rows after the attention. -/
theorem attended_at (W : Spec.Weights) (H : Holds js sgl sgr wq bq wk bk wv bv wo bo g1 b1 W)
    (X : Fin 256 → Fin 256 → ℝ) (P : Fin 256 → Fin 2 → ℝ)
    (hx : ∀ (r d : Fin 256), x0 (ix3 ⟨r / 8, by omega⟩ ⟨r % 8, by omega⟩ d) = (X r d : EReal))
    (hp : ∀ (r : Fin 256) (e : Fin 2), x1 (ix3 ⟨r / 8, by omega⟩ ⟨r % 8, by omega⟩ e) = (P r e : EReal)) (r n : Fin 256) :
    attended x0 x1 js sgl sgr wq bq wk bk wv bv wo bo g1 b1 (ix2 r n)
      = (Spec.src W (fun c => X (row r c)) (fun c => P (row r c)) ⟨r / 8, by omega⟩ n : EReal) := by
  let L : Fin 256 → Fin 256 → ℝ := fun r => Spec.norm (X r) W.g W.b
  have hxx : ∀ r d, shapeCast S256x256 x0 shapeCasts_S32x8x256_S256x256 (ix2 r d) = (X r d : EReal) := fun r d => by
    pointwise [hx]
  have hl : ∀ r d, lnorm js (shapeCast S256x256 x0 shapeCasts_S32x8x256_S256x256) g1 b1 (ix2 r d) = (L r d : EReal) := fun r d => by
    rw [lnorm_at js H.js _ X hxx, H.g, H.b, ← EReal.coe_mul, ← EReal.coe_add]; rfl
  have hq : ∀ r n, lin (lnorm js (shapeCast S256x256 x0 shapeCasts_S32x8x256_S256x256) g1 b1) (scaledW wq) (scaledB bq) (ix2 r n)
      = ((Consts.scale * Spec.lin W.wq W.bq (L r) n : ℝ) : EReal) := fun r n => by
    rw [lin_at _ _ _ L (fun d n => W.wq d n * Consts.scale) (fun n => W.bq n * Consts.scale) hl
      (fun d n => by pointwise [scaledW, Consts.named_scale, H.wq]; rw [EReal.coe_mul])
      (fun n => by pointwise [scaledB, Consts.named_scale, H.bq]; rw [EReal.coe_mul])]
    congr 1
    simp only [Spec.lin, mul_add, mul_sum]
    refine congrArg₂ (· + ·) (sum_congr rfl fun d _ => by ring) (mul_comm _ _)
  have hk : ∀ r n, lin (lnorm js (shapeCast S256x256 x0 shapeCasts_S32x8x256_S256x256) g1 b1)
      (shapeCast S256x256 wk shapeCasts_S256x256_S256x256) (shapeCast S1x256 bk shapeCasts_S1x256_S1x256) (ix2 r n)
      = ((Spec.lin W.wk W.bk (L r) n : ℝ) : EReal) :=
    lin_at _ _ _ L W.wk W.bk hl (fun d n => by pointwise [H.wk]) (fun n => by pointwise [H.bk])
  have hv : ∀ r n, lin (lnorm js (shapeCast S256x256 x0 shapeCasts_S32x8x256_S256x256) g1 b1)
      (shapeCast S256x256 wv shapeCasts_S256x256_S256x256) (shapeCast S1x256 bv shapeCasts_S1x256_S1x256) (ix2 r n)
      = ((Spec.lin W.wv W.bv (L r) n : ℝ) : EReal) :=
    lin_at _ _ _ L W.wv W.bv hl (fun d n => by pointwise [H.wv]) (fun n => by pointwise [H.bv])
  have hQ := rope_at (angle x1) _ (angle_at x1 P hp) sgl sgr H.sgl H.sgr _ _ hq
  have hK := rope_at (angle x1) _ (angle_at x1 P hp) sgl sgr H.sgl H.sgr _ _ hk
  simp only [Spec.rope_smul] at hQ
  have hO := heads_at _ _ _ _ _ _ hQ hK hv
  simp only [attendRow_eq (fun r n => Spec.rope (Spec.angle (P r)) (Spec.lin W.wq W.bq (L r)) n)] at hO
  dsimp only [attended]
  generalize heads (F := Ideal) _ _ _ = o at hO ⊢
  pointwise [hO, H.wo, H.bo, hx]
  rw [Ext.sum_eq fun d => (EReal.coe_mul _ _).symm, ← EReal.coe_add, ← EReal.coe_add]
  simp only [Spec.src, Spec.o, row_self]
  congr 1
  unfold Spec.q Spec.k Spec.v Spec.l
  simp only [row_self]
  rfl

end Cert.KernelIdeal.Block

end
-- ==== Proof.TileValue.lean ====
/- What one tile computes: the block's result at its eight positions. -/
module

public import proofs.«01_k».proof.Proof.Head
public import proofs.«01_k».proof.Proof.Mlp

@[expose] public section

set_option maxRecDepth 16384

noncomputable section

namespace Cert.KernelIdeal.Block

open Cert.KernelIdeal Cert.KernelIdeal.Gen Idealize.ShloMosaic Idealize.ShloMosaic.TcCoe Idealize.SL.Sem Finset

section
variable (js : FVec Ideal S256x1 .bf16) (g2 b2 : FVec Ideal S1x256 .f32) (w1 : FVec Ideal S256x1024 .bf16)
  (c1 : FVec Ideal S1x1024 .f32) (w2 : FVec Ideal S1024x256 .bf16) (c2 : FVec Ideal S1x256 .f32)

/-- The weights of the second half, read from the operands. -/
def tail : Spec.Tail where
  g n := g2 (ix2 0 n)
  b n := b2 (ix2 0 n)
  w1 d f := w1 (ix2 d f)
  c1 f := c1 (ix2 0 f)
  w2 f n := w2 (ix2 f n)
  c2 n := c2 (ix2 0 n)

theorem hidden_at (hj : ∀ d, js (ix2 d 0) = ((1 / 256 : ℝ) : EReal)) (x : FVec Ideal S256x256 .f32)
    (Y : Fin 256 → Fin 256 → ℝ) (hx : ∀ r n, x (ix2 r n) = (Y r n : EReal)) (r : Fin 256) (f : Fin 1024) :
    hidden (lnorm js x g2 b2) w1 c1 (ix2 r f) = Spec.hidden (tail g2 b2 w1 c1 w2 c2) (Y r) f := by
  pointwise [hidden, lnorm_at js hj x Y hx]
  rfl

theorem gelu_at (x : FVec Ideal S256x1024 .bf16) (r : Fin 256) (f : Fin 1024) :
    gelu x (ix2 r f) = Spec.gelu (x (ix2 r f)) := by
  pointwise [gelu, Consts.named_gelu_a, Consts.named_gelu_c, Consts.half16, Consts.one16]
  rfl

/-- The rows after the multilayer perceptron. -/
theorem fedForward_at (hj : ∀ d, js (ix2 d 0) = ((1 / 256 : ℝ) : EReal)) (x : FVec Ideal S256x256 .f32)
    (Y : Fin 256 → Fin 256 → ℝ) (hx : ∀ r n, x (ix2 r n) = (Y r n : EReal)) (r n : Fin 256) :
    fedForward x js g2 b2 w1 c1 w2 c2 (ix2 r n) = Spec.mlp (tail g2 b2 w1 c1 w2 c2) (Y r) n := by
  pointwise [fedForward, gelu_at, hidden_at js g2 b2 w1 c1 w2 c2 hj x Y hx, hx]
  rfl

end

variable (x0 : FVec Ideal S32x8x256 .f32) (x1 : FVec Ideal S32x8x2 .f32) (js : FVec Ideal S256x1 .bf16)
  (sgl sgr : FVec Ideal S1x256 .f32) (wq : FVec Ideal S256x256 .f32) (bq : FVec Ideal S1x256 .f32)
  (wk : FVec Ideal S256x256 .bf16) (bk : FVec Ideal S1x256 .f32) (wv : FVec Ideal S256x256 .bf16)
  (bv : FVec Ideal S1x256 .f32) (wo : FVec Ideal S256x256 .bf16) (bo g1 b1 g2 b2 : FVec Ideal S1x256 .f32)
  (w1 : FVec Ideal S256x1024 .bf16) (c1 : FVec Ideal S1x1024 .f32) (w2 : FVec Ideal S1024x256 .bf16)
  (c2 : FVec Ideal S1x256 .f32)

/-- One tile: at token `c` and position `s` of its eight. -/
theorem tile_at (W : Spec.Weights) (H : Holds js sgl sgr wq bq wk bk wv bv wo bo g1 b1 W)
    (X : Fin 8 → Fin 32 → Fin 256 → ℝ) (P : Fin 8 → Fin 32 → Fin 2 → ℝ)
    (hx : ∀ c s d, x0 (ix3 c s d) = (X s c d : EReal)) (hp : ∀ c s e, x1 (ix3 c s e) = (P s c e : EReal))
    (c : Fin 32) (s : Fin 8) (n : Fin 256) :
    tile x0 x1 js sgl sgr wq bq wk bk wv bv wo bo g1 b1 g2 b2 w1 c1 w2 c2 (ix4 0 c s n)
      = Spec.block W (tail g2 b2 w1 c1 w2 c2) (X s) (P s) c n := by
  have ha := attended_at x0 x1 js sgl sgr wq bq wk bk wv bv wo bo g1 b1 W H
    (fun r d => X ⟨r % 8, by omega⟩ ⟨r / 8, by omega⟩ d) (fun r e => P ⟨r % 8, by omega⟩ ⟨r / 8, by omega⟩ e)
    (fun r d => hx _ _ _) (fun r e => hp _ _ _)
  pointwise [tile, fedForward_at js g2 b2 w1 c1 w2 c2 H.js _ _ ha]
  have e1 : ∀ c' : Fin 32, (⟨(row ⟨c * 8 + s, by omega⟩ c').val % 8, by omega⟩ : Fin 8) = s := fun c' =>
    Fin.ext (by simp only [row]; omega)
  have e2 : ∀ c' : Fin 32, (⟨(row ⟨c * 8 + s, by omega⟩ c').val / 8, by omega⟩ : Fin 32) = c' := fun c' =>
    Fin.ext (by simp only [row]; omega)
  have e3 : (⟨(c.val * 8 + s.val) / 8, by omega⟩ : Fin 32) = c := Fin.ext (by simp only; omega)
  simp only [e1, e2, e3]
  rfl

end Cert.KernelIdeal.Block

end
-- ==== Proof.BlockValue.lean ====
/- What a grid point leaves in the output block: the block's result at its 128 positions. -/
module

public import proofs.«01_k».proof.Proof.Stores
public import proofs.«01_k».proof.Proof.TileValue
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem Finset

variable (x0 : Vec Ideal S1x32x128x256 .f32) (x1 : Vec Ideal S1x32x128x2 .f32) (x2 : Vec Ideal S256x1 .bf16)
  (x3 x4 : Vec Ideal S1x256 .f32) (x5 : Vec Ideal S256x256 .f32) (x6 : Vec Ideal S1x256 .f32) (x7 : Vec Ideal S256x256 .bf16)
  (x8 : Vec Ideal S1x256 .f32) (x9 : Vec Ideal S256x256 .bf16) (x10 : Vec Ideal S1x256 .f32) (x11 : Vec Ideal S256x256 .bf16)
  (x12 x13 x14 x15 x16 : Vec Ideal S1x256 .f32) (x17 : Vec Ideal S256x1024 .bf16) (x18 : Vec Ideal S1x1024 .f32)
  (x19 : Vec Ideal S1024x256 .bf16) (x20 : Vec Ideal S1x256 .f32)

/-- The offsets of a rectangle that starts at the origin. -/
theorem zero2 : (![0, 0] : Fin 2 → ℕ) = fun _ => 0 := by decide

theorem zero4 : (![0, 0, 0, 0] : Fin 4 → ℕ) = fun _ => 0 := by decide

/-- A tile over the positions from `o` on, at an index of its own that lies at position `p`, token `c` and lane `n`. -/
theorem tileAt_at (W : Spec.Weights) (H : Holds x2 x3 x4 x5 x6 x7 x8 x9 x10 x11 x12 x13 x14 W)
    (X : Fin 128 → Fin 32 → Fin 256 → ℝ) (P : Fin 128 → Fin 32 → Fin 2 → ℝ)
    (hx : ∀ c p d, x0 (ix4 0 c p d) = (X p c d : EReal)) (hp : ∀ c p e, x1 (ix4 0 c p e) = (P p c e : EReal))
    (o : ℕ) (ho : o + 8 ≤ 128) (sx : S32x128x256.Slices ![0, o, 0] S32x8x256) (sp : S32x128x2.Slices ![0, o, 0] S32x8x2)
    (i : S1x32x8x256.Idx) (c : Fin 32) (p : Fin 128) (n : Fin 256)
    (hc : (c : ℕ) = i 1) (hpp : (p : ℕ) = o + i 2) (hn : (n : ℕ) = i 3) :
    tileAt x0 x1 x2 x3 x4 x5 x6 x7 x8 x9 x10 x11 x12 x13 x14 x15 x16 x17 x18 x19 x20 o sx sp i
      = Spec.block W (tail x15 x16 x17 x18 x19 x20) (X p) (P p) c n := by
  idx_vars i
  change (c : ℕ) = (i1 : ℕ) at hc
  change (p : ℕ) = o + (i2 : ℕ) at hpp
  change (n : ℕ) = (i3 : ℕ) at hn
  obtain rfl : c = i1 := Fin.ext hc
  obtain rfl : n = i3 := Fin.ext hn
  obtain rfl : i0 = 0 := Subsingleton.elim _ _
  have hb : o + i2.val < 128 := by omega
  obtain rfl : p = ⟨o + i2, hb⟩ := Fin.ext hpp
  unfold tileAt
  rw [View.ld_unit_zero (S := S1x32x128x256) zero4, View.ld_unit_zero (S := S1x32x128x2) zero4]
  simp only [View.ld_unit_zero (S := S256x1) zero2, View.ld_unit_zero (S := S1x256) zero2,
    View.ld_unit_zero (S := S256x256) zero2, View.ld_unit_zero (S := S256x1024) zero2,
    View.ld_unit_zero (S := S1x1024) zero2, View.ld_unit_zero (S := S1024x256) zero2]
  exact tile_at _ _ _ _ _ _ _ _ _ _ _ _ _ _ _ _ _ _ _ _ _ W H (fun s => X ⟨o + s, by omega⟩) (fun s => P ⟨o + s, by omega⟩)
    (fun c s d => by pointwise [hx]) (fun c s e => by pointwise [hp]) c i2 n

/-- The output block at token `c`, position `p` and lane `n`. -/
theorem stores_at (W : Spec.Weights) (H : Holds x2 x3 x4 x5 x6 x7 x8 x9 x10 x11 x12 x13 x14 W)
    (X : Fin 128 → Fin 32 → Fin 256 → ℝ) (P : Fin 128 → Fin 32 → Fin 2 → ℝ)
    (hx : ∀ c p d, x0 (ix4 0 c p d) = (X p c d : EReal)) (hp : ∀ c p e, x1 (ix4 0 c p e) = (P p c e : EReal))
    (y : S1x32x128x256.Idx) :
    out0_21 x0 x1 x2 x3 x4 x5 x6 x7 x8 x9 x10 x11 x12 x13 x14 x15 x16 x17 x18 x19 x20 y
      = Spec.block W (tail x15 x16 x17 x18 x19 x20) (X (y 2)) (P (y 2)) (y 1) (y 3) := by
  rw [out_eq]
  unfold stores
  canon_tiles z e
  all_goals
    exact tileAt_at _ _ _ _ _ _ _ _ _ _ _ _ _ _ _ _ _ _ _ _ _ W H X P hx hp _ (by norm_num) _ _ z _ _ _ e1
      (by omega) e3

end Cert.KernelIdeal.Block

end
-- ==== Proof.ArrayValue.lean ====
/- The kernel's result array. -/
module

public import proofs.«01_k».proof.Proof.BlockValue
public import proofs.«01_k».proof.Proof.Args
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem Finset
open Idealize.ShloMosaic.Pipeline (Dat)

variable (m : (ℓ : Loc nD τ sig) → Buf (Elt Ideal) ℓ)

/-- The argument arrays as the kernel is launched with them. -/
def args (c : Dev nD) : Args where
  x := m ((c : Thread nD τ).loc main_arg0)
  pos := m ((c : Thread nD τ).loc main_arg1)
  wq := m ((c : Thread nD τ).loc main_arg2)
  bq := m ((c : Thread nD τ).loc main_arg3)
  wk := m ((c : Thread nD τ).loc main_arg4)
  bk := m ((c : Thread nD τ).loc main_arg5)
  wv := m ((c : Thread nD τ).loc main_arg6)
  bv := m ((c : Thread nD τ).loc main_arg7)
  wo := m ((c : Thread nD τ).loc main_arg8)
  bo := m ((c : Thread nD τ).loc main_arg9)
  g1 := m ((c : Thread nD τ).loc main_arg10)
  b1 := m ((c : Thread nD τ).loc main_arg11)
  g2 := m ((c : Thread nD τ).loc main_arg12)
  b2 := m ((c : Thread nD τ).loc main_arg13)
  w1 := m ((c : Thread nD τ).loc main_arg14)
  c1 := m ((c : Thread nD τ).loc main_arg15)
  w2 := m ((c : Thread nD τ).loc main_arg16)
  c2 := m ((c : Thread nD τ).loc main_arg17)

/-- Where the windows' blocks lie. -/
theorem idx : ∀ t : Fin cfg0.N, win0_0.index t = ![(grid0.coords t 0).val, 0, (grid0.coords t 1).val, 0]
    ∧ win0_1.index t = ![(grid0.coords t 0).val, 0, (grid0.coords t 1).val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![0, 0]
    ∧ win0_21.index t = ![(grid0.coords t 0).val, 0, (grid0.coords t 1).val, 0] :=
  (by decide +kernel : ∀ t : Fin grid0.N, _)

/-- The signs of the sines that go with the lanes above. -/
theorem lit0_val : ∀ n : Fin 256, lit0 n = if n.val % 16 < 8 then 0xBF800000#32 else 0#32 := by decide +kernel

/-- The signs of the sines that go with the lanes below. -/
theorem lit1_val : ∀ n : Fin 256, lit1 n = if n.val % 16 < 8 then 0#32 else 0x3F800000#32 := by decide +kernel

/-- An entry's place in a row. -/
theorem rowMajor_val : ∀ n : Fin 256, (S1x256.rowMajor (ix2 0 n)).val = n.val := by decide +kernel

theorem rowMajor_at (n : Fin 256) : S1x256.rowMajor (ix2 0 n) = n := Fin.ext (rowMajor_val n)

set_option maxHeartbeats 4000000 in
/-- Every window but the first two and the last stages its whole array. -/
theorem whole (c : Dev nD) (t : Fin cfg0.N) :
    iblk m c 2 t = V m c main_v0 ∧ iblk m c 3 t = V m c main_cst_0 ∧ iblk m c 4 t = V m c main_cst_1
    ∧ iblk m c 5 t = V m c main_arg2 ∧ iblk m c 6 t = V m c main_v1 ∧ iblk m c 7 t = V m c main_v2
    ∧ iblk m c 8 t = V m c main_v3 ∧ iblk m c 9 t = V m c main_v4 ∧ iblk m c 10 t = V m c main_v5
    ∧ iblk m c 11 t = V m c main_v6 ∧ iblk m c 12 t = V m c main_v7 ∧ iblk m c 13 t = V m c main_v8
    ∧ iblk m c 14 t = V m c main_v9 ∧ iblk m c 15 t = V m c main_v10 ∧ iblk m c 16 t = V m c main_v11
    ∧ iblk m c 17 t = V m c main_v12 ∧ iblk m c 18 t = V m c main_v13 ∧ iblk m c 19 t = V m c main_v14
    ∧ iblk m c 20 t = V m c main_v15 := by
  refine ⟨?_, ?_, ?_, ?_, ?_, ?_, ?_, ?_, ?_, ?_, ?_, ?_, ?_, ?_, ?_, ?_, ?_, ?_, ?_⟩ <;> funext y <;> blk_ext [iblk, idx t]

/-- The column of `1/256`. -/
theorem v0_at (c : Dev nD) (d : Fin 256) : (V m c main_v0 : FVec Ideal S256x1 .bf16) (ix2 d 0) = ((1 / 256 : ℝ) : EReal) := by
  entry_read
  pointwise
  exact Consts.inv256

/-- The first table of signs. -/
theorem cst0_at (c : Dev nD) (n : Fin 256) :
    (V m c main_cst_0 : FVec Ideal S1x256 .f32) (ix2 0 n) = ((if n.val % 16 < 8 then -1 else 0 : ℝ) : EReal) := by
  entry_read
  pointwise
  rw [rowMajor_at, lit0_val]
  split_ifs
  · exact Consts.negOne
  · exact Ideal.ofBits_zero _

/-- The second table of signs. -/
theorem cst1_at (c : Dev nD) (n : Fin 256) :
    (V m c main_cst_1 : FVec Ideal S1x256 .f32) (ix2 0 n) = ((if n.val % 16 < 8 then 0 else 1 : ℝ) : EReal) := by
  entry_read
  pointwise
  rw [rowMajor_at, lit1_val]
  split_ifs
  · exact Ideal.ofBits_zero _
  · exact Consts.one32

/-- The biases and the layer norms' rows, as the host reshapes them. -/
theorem rows_at (c : Dev nD) (n : Fin 256) :
    (V m c main_v1 : FVec Ideal S1x256 .f32) (ix2 0 n) = (args m c).bq (ix1 n)
    ∧ (V m c main_v3 : FVec Ideal S1x256 .f32) (ix2 0 n) = (args m c).bk (ix1 n)
    ∧ (V m c main_v5 : FVec Ideal S1x256 .f32) (ix2 0 n) = (args m c).bv (ix1 n)
    ∧ (V m c main_v7 : FVec Ideal S1x256 .f32) (ix2 0 n) = (args m c).bo (ix1 n)
    ∧ (V m c main_v8 : FVec Ideal S1x256 .f32) (ix2 0 n) = (args m c).g1 (ix1 n)
    ∧ (V m c main_v9 : FVec Ideal S1x256 .f32) (ix2 0 n) = (args m c).b1 (ix1 n)
    ∧ (V m c main_v10 : FVec Ideal S1x256 .f32) (ix2 0 n) = (args m c).g2 (ix1 n)
    ∧ (V m c main_v11 : FVec Ideal S1x256 .f32) (ix2 0 n) = (args m c).b2 (ix1 n)
    ∧ (V m c main_v15 : FVec Ideal S1x256 .f32) (ix2 0 n) = (args m c).c2 (ix1 n) := by
  refine ⟨?_, ?_, ?_, ?_, ?_, ?_, ?_, ?_, ?_⟩ <;> entry_read <;> pointwise <;> rfl

theorem hiddenRow_at (c : Dev nD) (f : Fin 1024) :
    (V m c main_v13 : FVec Ideal S1x1024 .f32) (ix2 0 f) = (args m c).c1 (ix1 f) := by
  entry_read
  pointwise
  rfl

/-- The matrices, as the host converts them. -/
theorem mats_at (c : Dev nD) (d n : Fin 256) :
    (V m c main_arg2 : FVec Ideal S256x256 .f32) (ix2 d n) = (args m c).wq (ix2 d n)
    ∧ (V m c main_v2 : FVec Ideal S256x256 .bf16) (ix2 d n) = (args m c).wk (ix2 d n)
    ∧ (V m c main_v4 : FVec Ideal S256x256 .bf16) (ix2 d n) = (args m c).wv (ix2 d n)
    ∧ (V m c main_v6 : FVec Ideal S256x256 .bf16) (ix2 d n) = (args m c).wo (ix2 d n) := by
  refine ⟨by rw [V_main_arg2]; rfl, ?_, ?_, ?_⟩ <;> entry_read <;> pointwise <;> rfl

theorem hiddenMats_at (c : Dev nD) (d : Fin 256) (f : Fin 1024) :
    (V m c main_v12 : FVec Ideal S256x1024 .bf16) (ix2 d f) = (args m c).w1 (ix2 d f)
    ∧ (V m c main_v14 : FVec Ideal S1024x256 .bf16) (ix2 f d) = (args m c).w2 (ix2 f d) := by
  refine ⟨?_, ?_⟩ <;> entry_read <;> pointwise <;> rfl

/-- The operands of the attention hold the argument arrays' reals. -/
theorem holds (c : Dev nD) (A : (args m c).Finite) :
    Holds (V m c main_v0) (V m c main_cst_0) (V m c main_cst_1) (V m c main_arg2) (V m c main_v1) (V m c main_v2)
      (V m c main_v3) (V m c main_v4) (V m c main_v5) (V m c main_v6) (V m c main_v7) (V m c main_v8) (V m c main_v9)
      (args m c).weights where
  js := v0_at m c
  sgl := cst0_at m c
  sgr := cst1_at m c
  wq d n := (mats_at m c d n).1.trans (A.wq _)
  bq n := (rows_at m c n).1.trans (A.bq _)
  wk d n := (mats_at m c d n).2.1.trans (A.wk _)
  bk n := (rows_at m c n).2.1.trans (A.bk _)
  wv d n := (mats_at m c d n).2.2.1.trans (A.wv _)
  bv n := (rows_at m c n).2.2.1.trans (A.bv _)
  wo d n := (mats_at m c d n).2.2.2.trans (A.wo _)
  bo n := (rows_at m c n).2.2.2.1.trans (A.bo _)
  g n := (rows_at m c n).2.2.2.2.1.trans (A.g1 _)
  b n := (rows_at m c n).2.2.2.2.2.1.trans (A.b1 _)

/-- The operands of the second half are the argument arrays. -/
theorem tail_eq (c : Dev nD) :
    tail (V m c main_v10) (V m c main_v11) (V m c main_v12) (V m c main_v13) (V m c main_v14) (V m c main_v15)
      = (args m c).tail := by
  unfold tail Args.tail
  rw [Spec.Tail.mk.injEq]
  exact ⟨funext fun n => (rows_at m c n).2.2.2.2.2.2.1, funext fun n => (rows_at m c n).2.2.2.2.2.2.2.1,
    funext fun d => funext fun f => (hiddenMats_at m c d f).1, funext fun f => hiddenRow_at m c f,
    funext fun f => funext fun d => (hiddenMats_at m c d f).2, funext fun n => (rows_at m c n).2.2.2.2.2.2.2.2⟩

/-- The result array. -/
theorem final (c : Dev nD) (A : (args m c).Finite) : (dats m 0 c).arrAt 21 cfg0.N = (args m c).result := by
  refine (dats m 0 c).arrAt_eq_of_covers 21 _ (by decide +kernel) fun t _ y => ?_
  blk_simp
  rw [after0_21]
  obtain ⟨w2, w3, w4, w5, w6, w7, w8, w9, w10, w11, w12, w13, w14, w15, w16, w17, w18, w19, w20⟩ := whole m c t
  rw [w2, w3, w4, w5, w6, w7, w8, w9, w10, w11, w12, w13, w14, w15, w16, w17, w18, w19, w20]
  have e := stores_at (iblk m c 0 t) (iblk m c 1 t) _ _ _ _ _ _ _ _ _ _ _ _ _ (V m c main_v10) (V m c main_v11)
    (V m c main_v12) (V m c main_v13) (V m c main_v14) (V m c main_v15) _ (holds m c A)
    (fun p => (args m c).tokens (grid0.coords t 0) ⟨(grid0.coords t 1).val * 128 + p, by have := (grid0.coords t 1).isLt; change _ < 4 at this; omega⟩)
    (fun p => (args m c).coords (grid0.coords t 0) ⟨(grid0.coords t 1).val * 128 + p, by have := (grid0.coords t 1).isLt; change _ < 4 at this; omega⟩)
    (fun c' p d => by refine Eq.trans ?_ (A.x _); blk_ext [iblk, V_main_arg0, idx t])
    (fun c' p d => by refine Eq.trans ?_ (A.pos _); blk_ext [iblk, V_main_arg1, idx t]) y
  rw [tail_eq] at e
  refine e.trans ((args m c).result_at _ _ _ _ _ ?_ ?_ ?_ ?_).symm <;> (blk_simp [idx t] <;> try omega)

end Cert.KernelIdeal.Block

end
-- ==== Proof.RefRows.lean ====
/- What the reference's stages compute, entry by entry, where their operands are reals: the layer norm, the linear maps,
   the rotary angles and the rotation. A position `n` of these arrays is a sequence and a position in it, 512 to a sequence. -/
module

public import proofs.«01_k».proof.Proof.Args
public import proofs.«01_k».proof.Proof.Gen.ReferenceIdeal.Run

@[expose] public section

set_option maxRecDepth 16384

noncomputable section

namespace Cert.ReferenceIdeal.Block

open Cert.ReferenceIdeal Cert.ReferenceIdeal.Gen Idealize.ShloMosaic Idealize.ShloMosaic.TcCoe Idealize.SL.Sem Finset

/-- The mean of each token's row. -/
def meanOf (x : FVec Ideal S4096x32x256 .f32) : FVec Ideal S4096x32x1 .f32 :=
  Host.divf (broadcastInDim S4096x32x1 ![0, 1] bcast_S4096x32_S4096x32x1_0_1
    (Host.reduceAdd x (constant S_ .f32 0x00000000#32) reducesTo_S4096x32x256_S4096x32_d2 h_S_))
    (broadcastInDim S4096x32x1 ![] bcast_S_S4096x32x1 (constant S_ .f32 0x43800000#32))

/-- A row less its mean. -/
def centred (x : FVec Ideal S4096x32x256 .f32) : FVec Ideal S4096x32x256 .f32 :=
  subf x (broadcastInDim S4096x32x256 ![0, 1, 2] bcast_S4096x32x1_S4096x32x256_0_1_2 (meanOf x))

/-- A vector of features, the same for every token. -/
def spread (g : FVec Ideal S256 .f32) : FVec Ideal S4096x32x256 .f32 :=
  broadcastInDim S4096x32x256 ![0, 1, 2] bcast_S1x1x256_S4096x32x256_0_1_2 (broadcastInDim S1x1x256 ![2] bcast_S256_S1x1x256_2 g)

/-- The layer norm. -/
def lnorm (x : FVec Ideal S4096x32x256 .f32) (g b : FVec Ideal S256 .f32) : FVec Ideal S4096x32x256 .f32 :=
  addf (mulf (Host.divf (centred x) (broadcastInDim S4096x32x256 ![0, 1, 2] bcast_S4096x32x1_S4096x32x256_0_1_2
    (Host.sqrt (addf (meanOf (mulf (centred x) (centred x)))
      (broadcastInDim S4096x32x1 ![] bcast_S_S4096x32x1 (constant S_ .f32 0x3727C5AC#32)))))) (spread g)) (spread b)

/-- A linear map with a bias. -/
def lin (l : FVec Ideal S4096x32x256 .f32) (w : FVec Ideal S256x256 .f32) (b : FVec Ideal S256 .f32) :
    FVec Ideal S4096x32x8x32 .f32 :=
  shapeCast _ (addf (Host.dotGeneral dot_S4096x32x256_S256x256_S4096x32x256_2_0_01_1_n_n none l w) (spread b))
    shapeCasts_S4096x32x256_S4096x32x8x32

variable (x : FVec Ideal S4096x32x256 .f32) (X : Fin 4096 → Fin 32 → Fin 256 → ℝ)
  (hx : ∀ n c d, x (ix3 n c d) = (X n c d : EReal))

include hx

theorem meanOf_at (n : Fin 4096) (c : Fin 32) : meanOf x (ix3 n c 0) = ((Spec.mean (X n c) : ℝ) : EReal) := by
  pointwise [meanOf, hx, Consts.c256]
  rw [Ext.sum_eq fun _ => rfl, Ext.div_real (by norm_num)]
  rfl

theorem centred_at (n : Fin 4096) (c : Fin 32) (d : Fin 256) :
    centred x (ix3 n c d) = ((X n c d - Spec.mean (X n c) : ℝ) : EReal) := by
  pointwise [centred, hx, meanOf_at x X hx]
  rw [EReal.coe_sub]

theorem lnorm_at (g b : FVec Ideal S256 .f32) (n : Fin 4096) (c : Fin 32) (d : Fin 256) :
    lnorm x g b (ix3 n c d) = (Spec.unitRow (X n c) d : EReal) * g (ix1 d) + b (ix1 d) := by
  have h1 := centred_at x X hx
  have h2 := meanOf_at (mulf (centred x) (centred x)) (fun n c d => (X n c d - Spec.mean (X n c)) * (X n c d - Spec.mean (X n c)))
    (fun n c d => by pointwise [h1]; rw [EReal.coe_mul]) n c
  pointwise [lnorm, spread, h1, h2, Consts.eps32]
  rw [← EReal.coe_add,
    show Spec.mean (fun d => (X n c d - Spec.mean (X n c)) * (X n c d - Spec.mean (X n c))) = Spec.var (X n c) from rfl,
    Ext.sqrt_real (Spec.var_eps_pos _).le, Ext.div_real (Real.sqrt_pos.2 (Spec.var_eps_pos _)).ne']
  rfl

theorem lin_at (w : FVec Ideal S256x256 .f32) (b : FVec Ideal S256 .f32) (W : Fin 256 → Fin 256 → ℝ) (B : Fin 256 → ℝ)
    (hw : ∀ d n, w (ix2 d n) = (W d n : EReal)) (hb : ∀ n, b (ix1 n) = (B n : EReal)) (n : Fin 4096) (c : Fin 32)
    (h : Fin 8) (e : Fin 32) : lin x w b (ix4 n c h e) = ((Spec.lin W B (X n c) (Spec.lane h e) : ℝ) : EReal) := by
  pointwise [lin, spread, hx, hw, hb]
  rw [Ext.sum_eq fun _ => (EReal.coe_mul _ _).symm, ← EReal.coe_add]
  rfl

omit hx

/-- The halves of each head turned by one angle each: cosines and sines `cx`, `sx` for the first sixteen lanes and `cy`,
    `sy` for the others; eight lanes turn with the eight that follow them. -/
def rot (q : FVec Ideal S4096x32x8x32 .f32) (cx sx cy sy : FVec Ideal S4096x32x1x8 .f32) : FVec Ideal S4096x32x8x32 .f32 :=
  let all (y : FVec Ideal S4096x32x1x8 .f32) : FVec Ideal S4096x32x8x8 .f32 :=
    broadcastInDim S4096x32x8x8 ![0, 1, 2, 3] bcast_S4096x32x1x8_S4096x32x8x8_0_1_2_3 y
  let lo (a : FVec Ideal S4096x32x8x16 .f32) : FVec Ideal S4096x32x8x8 .f32 :=
    extractStridedSlice S4096x32x8x8 ![0, 0, 0, 0] a slices_S4096x32x8x16_S4096x32x8x8_0_0_0_0
  let hi (a : FVec Ideal S4096x32x8x16 .f32) : FVec Ideal S4096x32x8x8 .f32 :=
    extractStridedSlice S4096x32x8x8 ![0, 0, 0, 8] a slices_S4096x32x8x16_S4096x32x8x8_0_0_0_8
  let turn (a : FVec Ideal S4096x32x8x16 .f32) (y s : FVec Ideal S4096x32x1x8 .f32) : FVec Ideal S4096x32x8x16 .f32 :=
    concatenate S4096x32x8x16 3 [⟨S4096x32x8x8, subf (mulf (lo a) (all y)) (mulf (hi a) (all s))⟩,
      ⟨S4096x32x8x8, addf (mulf (lo a) (all s)) (mulf (hi a) (all y))⟩] concatenates_S4096x32x8x8_S4096x32x8x8_S4096x32x8x16_d3
  concatenate S4096x32x8x32 3
    [⟨S4096x32x8x16, turn (extractStridedSlice S4096x32x8x16 ![0, 0, 0, 0] q slices_S4096x32x8x32_S4096x32x8x16_0_0_0_0) cx sx⟩,
     ⟨S4096x32x8x16, turn (extractStridedSlice S4096x32x8x16 ![0, 0, 0, 16] q slices_S4096x32x8x32_S4096x32x8x16_0_0_0_16) cy sy⟩]
    concatenates_S4096x32x8x16_S4096x32x8x16_S4096x32x8x32_d3

/-- The frequency of one of eight lanes. -/
def freq (k : Fin 8) : ℝ := Real.exp ((k.val : ℝ) * -(Real.log 10000 * 8⁻¹))

theorem angle_lane (p : Fin 2 → ℝ) (h : Fin 8) (e : Fin 32) (k : Fin 8) (hk : e.val % 8 = k.val) :
    Spec.angle p (Spec.lane h e) = p (if e.val < 16 then 0 else 1) * freq k := by
  have h1 : (h.val * 32 + e.val) % 32 = e.val := by omega
  have h2 : (h.val * 32 + e.val) % 8 = k.val := by omega
  simp only [Spec.angle, Spec.freq, Spec.lane, freq, h1, h2]

/-- The rotation in the lower eight lanes of a group of sixteen. -/
theorem rope_lo (p : Fin 2 → ℝ) (t : Fin 256 → ℝ) (h : Fin 8) (e a b : Fin 32) (k : Fin 8) (i : Fin 2) (h8 : e.val % 16 < 8)
    (ha : a.val = e.val) (hb : b.val = e.val + 8) (hk : e.val % 8 = k.val) (hi : (if e.val < 16 then (0 : Fin 2) else 1) = i) :
    Spec.rope (Spec.angle p) t (Spec.lane h e)
      = t (Spec.lane h a) * Real.cos (p i * freq k) - t (Spec.lane h b) * Real.sin (p i * freq k) := by
  obtain rfl : a = e := Fin.ext ha
  have h2 : (Spec.lane h a).val % 16 < 8 := by simp only [Spec.lane]; omega
  have h3 : (⟨(Spec.lane h a).val + 8, by omega⟩ : Fin 256) = Spec.lane h b := Fin.ext (by simp only [Spec.lane]; omega)
  rw [Spec.rope, dif_pos h2, angle_lane p h a k hk, hi, h3, sub_eq_add_neg]

/-- The rotation in the upper eight. -/
theorem rope_hi (p : Fin 2 → ℝ) (t : Fin 256 → ℝ) (h : Fin 8) (e a b : Fin 32) (k : Fin 8) (i : Fin 2) (h8 : ¬ e.val % 16 < 8)
    (ha : a.val = e.val) (hb : b.val = e.val - 8) (hk : e.val % 8 = k.val) (hi : (if e.val < 16 then (0 : Fin 2) else 1) = i) :
    Spec.rope (Spec.angle p) t (Spec.lane h e)
      = t (Spec.lane h b) * Real.sin (p i * freq k) + t (Spec.lane h a) * Real.cos (p i * freq k) := by
  obtain rfl : a = e := Fin.ext ha
  have h2 : ¬ (Spec.lane h a).val % 16 < 8 := by simp only [Spec.lane]; omega
  have h3 : (⟨(Spec.lane h a).val - 8, by omega⟩ : Fin 256) = Spec.lane h b := Fin.ext (by simp only [Spec.lane]; omega)
  rw [Spec.rope, dif_neg h2, angle_lane p h a k hk, hi, h3, add_comm]

theorem rot_at (q : FVec Ideal S4096x32x8x32 .f32) (cx sx cy sy : FVec Ideal S4096x32x1x8 .f32)
    (Q : Fin 4096 → Fin 32 → Fin 256 → ℝ) (P : Fin 4096 → Fin 32 → Fin 2 → ℝ)
    (hq : ∀ n c h e, q (ix4 n c h e) = (Q n c (Spec.lane h e) : EReal))
    (hcx : ∀ n c k, cx (ix4 n c 0 k) = ((Real.cos (P n c 0 * freq k) : ℝ) : EReal))
    (hsx : ∀ n c k, sx (ix4 n c 0 k) = ((Real.sin (P n c 0 * freq k) : ℝ) : EReal))
    (hcy : ∀ n c k, cy (ix4 n c 0 k) = ((Real.cos (P n c 1 * freq k) : ℝ) : EReal))
    (hsy : ∀ n c k, sy (ix4 n c 0 k) = ((Real.sin (P n c 1 * freq k) : ℝ) : EReal))
    (n : Fin 4096) (c : Fin 32) (h : Fin 8) (e : Fin 32) :
    rot q cx sx cy sy (ix4 n c h e) = ((Spec.rope (Spec.angle (P n c)) (Q n c) (Spec.lane h e) : ℝ) : EReal) := by
  pointwise [rot, hq, hcx, hsx, hcy, hsy]
  split_ifs
  all_goals try contradiction
  all_goals
    simp only [← EReal.coe_mul, ← EReal.coe_sub, ← EReal.coe_add]
    congr 1
  · exact (rope_lo _ _ h e _ _ _ 0 (by omega) (by first | rfl | (dsimp only; omega)) (by dsimp only; omega) (by dsimp only; omega) (if_pos (by assumption))).symm
  · exact (rope_hi _ _ h e _ _ _ 0 (by omega) (by dsimp only; omega) (by dsimp only) (by dsimp only; omega) (if_pos (by assumption))).symm
  · exact (rope_lo _ _ h e _ _ _ 1 (by omega) (by first | rfl | (dsimp only; omega)) (by dsimp only; omega) (by dsimp only; omega) (if_neg (by assumption))).symm
  · exact (rope_hi _ _ h e _ _ _ 1 (by omega) (by first | rfl | (dsimp only; omega)) (by dsimp only; omega) (by dsimp only; omega) (if_neg (by assumption))).symm

/-- The greatest score of each query. -/
def top (s : FVec Ideal S4096x8x32x32 .f32) : FVec Ideal S4096x8x32 .f32 :=
  Host.reduce FloatOps.maximumf s (constant S_ .f32 0xFF800000#32) reducesTo_S4096x8x32x32_S4096x8x32_d3 h_S_

/-- A number for each query, the same for its keys. -/
def each (t : FVec Ideal S4096x8x32 .f32) : FVec Ideal S4096x8x32x32 .f32 :=
  broadcastInDim S4096x8x32x32 ![0, 1, 2, 3] bcast_S4096x8x32x1_S4096x8x32x32_0_1_2_3
    (broadcastInDim S4096x8x32x1 ![0, 1, 2] bcast_S4096x8x32_S4096x8x32x1_0_1_2 t)

/-- A number at least minus infinity: the number itself. -/
def capped (t : FVec Ideal S4096x8x32 .f32) : FVec Ideal S4096x8x32 .f32 :=
  maximumf (broadcastInDim S4096x8x32 ![] bcast_S_S4096x8x32 (constant S_ .f32 0xFF800000#32)) t

/-- The exponentials of the scores less the query's greatest. -/
def weights (s : FVec Ideal S4096x8x32x32 .f32) : FVec Ideal S4096x8x32x32 .f32 := Host.exp (subf s (each (capped (top s))))

theorem top_at (s : FVec Ideal S4096x8x32x32 .f32) (n : Fin 4096) (h : Fin 8) (a : Fin 32) :
    top s (ix3 n h a) = univ.fold max (⊥ : EReal) fun c => s (ix4 n h a c) := by
  pointwise [top, Consts.negInf]

theorem each_at (t : FVec Ideal S4096x8x32 .f32) (n : Fin 4096) (h : Fin 8) (a c : Fin 32) :
    each t (ix4 n h a c) = t (ix3 n h a) := by
  pointwise [each]

theorem capped_at (t : FVec Ideal S4096x8x32 .f32) (n : Fin 4096) (h : Fin 8) (a : Fin 32) :
    capped t (ix3 n h a) = t (ix3 n h a) := by
  pointwise [capped, Consts.negInf]
  exact max_eq_right bot_le

/-- The weights are exponentials of the scores less some real. -/
theorem weights_at (s : FVec Ideal S4096x8x32x32 .f32) (n : Fin 4096) (h : Fin 8) (a : Fin 32) (f : Fin 32 → ℝ)
    (hs : ∀ c, s (ix4 n h a c) = (f c : EReal)) :
    ∃ M : ℝ, ∀ c, weights s (ix4 n h a c) = ((Real.exp (f c - M) : ℝ) : EReal) := by
  obtain ⟨M, hM⟩ := Ext.fold_max_real (n := 31) _ f hs
  refine ⟨M, fun c => ?_⟩
  change Ideal.exp (s (ix4 n h a c) - each (capped (top s)) (ix4 n h a c)) = _
  rw [each_at, capped_at, top_at, hs, hM, ← EReal.coe_sub]
  rfl

end Cert.ReferenceIdeal.Block

end
-- ==== Proof.RefAttention.lean ====
/- The reference up to the attention's output, entry by entry. -/
module

public import proofs.«01_k».proof.Proof.RefRows

@[expose] public section

set_option maxRecDepth 16384

noncomputable section

namespace Cert.ReferenceIdeal.Block

open Cert.ReferenceIdeal Cert.ReferenceIdeal.Gen Cert.ReferenceIdeal.Value Idealize.ShloMosaic Idealize.ShloMosaic.TcCoe
open Idealize.ShloMosaic.StableHlo Idealize.SL.Sem Finset

variable (V : Valuation τ sig (Elt Ideal))

/-- The argument arrays as the reference is launched with them. -/
def args : Args where
  x := V (Proc.devRef .tc main_arg0)
  pos := V (Proc.devRef .tc main_arg1)
  wq := V (Proc.devRef .tc main_arg2)
  bq := V (Proc.devRef .tc main_arg3)
  wk := V (Proc.devRef .tc main_arg4)
  bk := V (Proc.devRef .tc main_arg5)
  wv := V (Proc.devRef .tc main_arg6)
  bv := V (Proc.devRef .tc main_arg7)
  wo := V (Proc.devRef .tc main_arg8)
  bo := V (Proc.devRef .tc main_arg9)
  g1 := V (Proc.devRef .tc main_arg10)
  b1 := V (Proc.devRef .tc main_arg11)
  g2 := V (Proc.devRef .tc main_arg12)
  b2 := V (Proc.devRef .tc main_arg13)
  w1 := V (Proc.devRef .tc main_arg14)
  c1 := V (Proc.devRef .tc main_arg15)
  w2 := V (Proc.devRef .tc main_arg16)
  c2 := V (Proc.devRef .tc main_arg17)

/-- The tokens of position `n`. -/
def tokens (n : Fin 4096) : Fin 32 → Fin 256 → ℝ := (args V).tokens ⟨n / 512, by omega⟩ ⟨n % 512, by omega⟩

/-- Their coordinates. -/
def coords (n : Fin 4096) : Fin 32 → Fin 2 → ℝ := (args V).coords ⟨n / 512, by omega⟩ ⟨n % 512, by omega⟩

/-- The normed tokens. -/
def normed (n : Fin 4096) (c : Fin 32) : Fin 256 → ℝ := Spec.l (args V).weights (tokens V n) c

variable (A : (args V).Finite)

include A

theorem x_at (n : Fin 4096) (c : Fin 32) (d : Fin 256) :
    (res_main_v1 V : FVec Ideal S4096x32x256 .f32) (ix3 n c d) = (tokens V n c d : EReal) := by
  have hx : ∀ i, (V (Proc.devRef .tc main_arg0) : FVec Ideal S8x32x512x256 .f32) i = _ := A.x
  pointwise [res_main_v1]
  exact hx _

theorem pos_at (n : Fin 4096) (c : Fin 32) (e : Fin 2) :
    (res_main_v3 V : FVec Ideal S4096x32x2 .f32) (ix3 n c e) = (coords V n c e : EReal) := by
  have hp : ∀ i, (V (Proc.devRef .tc main_arg1) : FVec Ideal S8x32x512x2 .f32) i = _ := A.pos
  pointwise [res_main_v3]
  exact hp _

theorem l_at (n : Fin 4096) (c : Fin 32) (d : Fin 256) :
    (res_main_v27 V : FVec Ideal S4096x32x256 .f32) (ix3 n c d) = (normed V n c d : EReal) := by
  have e := lnorm_at (res_main_v1 V) (tokens V) (x_at V A) (args V).g1 (args V).b1 n c d
  have hg : (args V).g1 (ix1 d) = (((args V).weights.g d : ℝ) : EReal) := A.g1 _
  have hb : (args V).b1 (ix1 d) = (((args V).weights.b d : ℝ) : EReal) := A.b1 _
  rw [hg, hb, ← EReal.coe_mul, ← EReal.coe_add] at e
  exact e

theorem q_at (n : Fin 4096) (c : Fin 32) (h : Fin 8) (e : Fin 32) :
    (res_main_v32 V : FVec Ideal S4096x32x8x32 .f32) (ix4 n c h e)
      = ((Spec.lin (args V).weights.wq (args V).weights.bq (normed V n c) (Spec.lane h e) : ℝ) : EReal) :=
  lin_at (res_main_v27 V) (normed V) (l_at V A) (args V).wq (args V).bq _ _ (fun _ _ => A.wq _) (fun _ => A.bq _) n c h e

theorem k_at (n : Fin 4096) (c : Fin 32) (h : Fin 8) (e : Fin 32) :
    (res_main_v37 V : FVec Ideal S4096x32x8x32 .f32) (ix4 n c h e)
      = ((Spec.lin (args V).weights.wk (args V).weights.bk (normed V n c) (Spec.lane h e) : ℝ) : EReal) :=
  lin_at (res_main_v27 V) (normed V) (l_at V A) (args V).wk (args V).bk _ _ (fun _ _ => A.wk _) (fun _ => A.bk _) n c h e

/-- The values of the attention. -/
theorem v_at (n : Fin 4096) (c : Fin 32) (h : Fin 8) (e : Fin 32) :
    lin (res_main_v27 V) (args V).wv (args V).bv (ix4 n c h e)
      = ((Spec.v (args V).weights (tokens V n) c (Spec.lane h e) : ℝ) : EReal) :=
  lin_at (res_main_v27 V) (normed V) (l_at V A) (args V).wv (args V).bv _ _ (fun _ _ => A.wv _) (fun _ => A.bv _) n c h e

omit A in
/-- The frequencies as the reference computes them: `1 / 10000^(k/8)`. -/
theorem freq_read (k : Fin 8) :
    Ideal.div 1 (Ideal.pow ((10000 : ℝ) : EReal) (Ideal.div (FloatOps.sitofp .f32 (BitVec.ofNat 32 k.val) : Ideal .f32) ((8 : ℝ) : EReal)))
      = ((freq k : ℝ) : EReal) := by
  have h : (BitVec.ofNat 32 k.val).toInt = ((k.val : ℕ) : ℤ) := by
    rw [BitVec.toInt_eq_toNat_of_lt] <;> simp only [BitVec.toNat_ofNat] <;> omega
  change Ideal.div ((1 : ℝ) : EReal) (Ideal.pow _ (Ideal.div ((((BitVec.ofNat 32 k.val).toInt : ℝ) : EReal)) _)) = _
  have hp : (0 : ℝ) < Real.rpow 10000 ((k.val : ℝ) / 8) := Real.rpow_pos_of_pos (by norm_num) _
  rw [h, Int.cast_natCast, Ext.div_real (by norm_num), Ideal.pow_coe_coe, Ext.div_real hp.ne', freq, Spec.freq_eq]

theorem angle0_at (n : Fin 4096) (c : Fin 32) (k : Fin 8) :
    (res_main_v57 V : FVec Ideal S4096x32x8 .f32) (ix3 n c k) = ((coords V n c 0 * freq k : ℝ) : EReal) := by
  pointwise [res_main_v57, pos_at V A, Consts.c8, Consts.c10000, Consts.one32]
  rw [freq_read, EReal.coe_mul]

theorem angle1_at (n : Fin 4096) (c : Fin 32) (k : Fin 8) :
    (res_main_v89 V : FVec Ideal S4096x32x8 .f32) (ix3 n c k) = ((coords V n c 1 * freq k : ℝ) : EReal) := by
  pointwise [res_main_v89, pos_at V A, Consts.c8, Consts.c10000, Consts.one32]
  rw [freq_read, EReal.coe_mul]

theorem cos0_at (n : Fin 4096) (c : Fin 32) (k : Fin 8) : (res_main_v59 V : FVec Ideal S4096x32x1x8 .f32) (ix4 n c 0 k)
    = ((Real.cos (coords V n c 0 * freq k) : ℝ) : EReal) := by
  pointwise [res_main_v59, angle0_at V A]
  rfl

theorem sin0_at (n : Fin 4096) (c : Fin 32) (k : Fin 8) : (res_main_v61 V : FVec Ideal S4096x32x1x8 .f32) (ix4 n c 0 k)
    = ((Real.sin (coords V n c 0 * freq k) : ℝ) : EReal) := by
  pointwise [res_main_v61, angle0_at V A]
  rfl

theorem cos1_at (n : Fin 4096) (c : Fin 32) (k : Fin 8) : (res_main_v91 V : FVec Ideal S4096x32x1x8 .f32) (ix4 n c 0 k)
    = ((Real.cos (coords V n c 1 * freq k) : ℝ) : EReal) := by
  pointwise [res_main_v91, angle1_at V A]
  rfl

theorem sin1_at (n : Fin 4096) (c : Fin 32) (k : Fin 8) : (res_main_v93 V : FVec Ideal S4096x32x1x8 .f32) (ix4 n c 0 k)
    = ((Real.sin (coords V n c 1 * freq k) : ℝ) : EReal) := by
  pointwise [res_main_v93, angle1_at V A]
  rfl

/-- The turned queries. -/
theorem rq_at (n : Fin 4096) (c : Fin 32) (h : Fin 8) (e : Fin 32) :
    rot (res_main_v32 V) (res_main_v59 V) (res_main_v61 V) (res_main_v91 V) (res_main_v93 V) (ix4 n c h e)
      = ((Spec.q (args V).weights (tokens V n) (coords V n) c (Spec.lane h e) : ℝ) : EReal) :=
  rot_at _ _ _ _ _ (fun n c => Spec.lin (args V).weights.wq (args V).weights.bq (normed V n c)) (coords V) (q_at V A) (cos0_at V A)
    (sin0_at V A) (cos1_at V A) (sin1_at V A) n c h e

/-- The turned keys: their angles are those of the queries. -/
theorem rk_at (n : Fin 4096) (c : Fin 32) (h : Fin 8) (e : Fin 32) :
    rot (res_main_v37 V) (res_main_v124 V) (res_main_v126 V) (res_main_v156 V) (res_main_v158 V) (ix4 n c h e)
      = ((Spec.k (args V).weights (tokens V n) (coords V n) c (Spec.lane h e) : ℝ) : EReal) :=
  rot_at _ _ _ _ _ (fun n c => Spec.lin (args V).weights.wk (args V).weights.bk (normed V n c)) (coords V) (k_at V A) (cos0_at V A)
    (sin0_at V A) (cos1_at V A) (sin1_at V A) n c h e

/-- The score of token `c` for token `a` at position `n` in head `h`. -/
def score (n : Fin 4096) (h : Fin 8) (a c : Fin 32) : ℝ :=
  Spec.score (Spec.q (args V).weights (tokens V n) (coords V n) a) (Spec.k (args V).weights (tokens V n) (coords V n) c) h

theorem score_at (n : Fin 4096) (h : Fin 8) (a c : Fin 32) :
    (res_main_v176 V : FVec Ideal S4096x8x32x32 .f32) (ix4 n h a c) = ((score V n h a c : ℝ) : EReal) := by
  have e : res_main_v176 V = Host.divf (Host.dotGeneral dot_S4096x32x8x32_S4096x32x8x32_S4096x8x32x32_3_3_1_1_02_02 none
      (rot (res_main_v32 V) (res_main_v59 V) (res_main_v61 V) (res_main_v91 V) (res_main_v93 V))
      (rot (res_main_v37 V) (res_main_v124 V) (res_main_v126 V) (res_main_v156 V) (res_main_v158 V)))
      (broadcastInDim S4096x8x32x32 ![] bcast_S_S4096x8x32x32 (Host.sqrt (constant S_ .f32 0x42000000#32))) := rfl
  rw [e]
  pointwise [rq_at V A, rk_at V A, Consts.c32]
  rw [Ext.sum_eq fun _ => (EReal.coe_mul _ _).symm, Ext.sqrt_real (by norm_num), Ext.div_real (Real.sqrt_pos.2 (by norm_num)).ne']
  rfl

/-- The attention's output: the values' mean by the weights over their sum. -/
def out (v : FVec Ideal S4096x32x8x32 .f32) (w : FVec Ideal S4096x8x32x32 .f32) : FVec Ideal S4096x32x256 .f32 :=
  shapeCast _ (transpose S4096x32x8x32 [0, 3, 1, 2]
    (Host.dotGeneral dot_S4096x32x8x32_S4096x8x32x32_S4096x8x32x32_1_3_3_2_02_01 none v
      (Host.divf w (each (Host.reduceAdd w (constant S_ .f32 0x00000000#32) reducesTo_S4096x8x32x32_S4096x8x32_d3 h_S_))))
    transposes_S4096x8x32x32_S4096x32x8x32_0_3_1_2) shapeCasts_S4096x32x8x32_S4096x32x256

omit A in
theorem out_at (v : FVec Ideal S4096x32x8x32 .f32) (w : FVec Ideal S4096x8x32x32 .f32) (n : Fin 4096) (a : Fin 32) (d : Fin 256) :
    out v w (ix3 n a d) = ∑ c, v (ix4 n c (Spec.headIx d) ⟨d % 32, by omega⟩) *
      Ideal.div (w (ix4 n (Spec.headIx d) a c)) (∑ c, w (ix4 n (Spec.headIx d) a c)) := by
  pointwise [out, each_at]
  rfl

theorem o_at (n : Fin 4096) (a : Fin 32) (d : Fin 256) :
    out (lin (res_main_v27 V) (args V).wv (args V).bv) (res_main_v183 V) (ix3 n a d)
      = ((Spec.o (args V).weights (tokens V n) (coords V n) a d : ℝ) : EReal) := by
  obtain ⟨M, hM⟩ := weights_at (res_main_v176 V) n (Spec.headIx d) a _ (score_at V A n (Spec.headIx d) a)
  have hw : ∀ c, (res_main_v183 V : FVec Ideal S4096x8x32x32 .f32) (ix4 n (Spec.headIx d) a c)
    = ((Real.exp (score V n (Spec.headIx d) a c - M) : ℝ) : EReal) := hM
  have hl : Spec.lane (Spec.headIx d) ⟨d % 32, by omega⟩ = d := Fin.ext (by simp only [Spec.lane, Spec.headIx]; omega)
  have hd : (∑ c, Real.exp (score V n (Spec.headIx d) a c - M)) ≠ 0 := (Spec.denom_pos _).ne'
  rw [out_at]
  simp only [hw, v_at V A, hl]
  rw [Ext.sum_eq (fun _ => rfl)]
  simp only [Ext.div_real hd]
  rw [Ext.sum_eq fun _ => (EReal.coe_mul _ _).symm]
  congr 1
  refine Eq.trans (sum_congr rfl fun c _ => mul_comm _ _) ?_
  exact Spec.softmax_shift (score V n (Spec.headIx d) a) (fun c => Spec.v (args V).weights (tokens V n) c d) M

/-- The rows after the attention. -/
theorem src_at (n : Fin 4096) (a : Fin 32) (d : Fin 256) : (res_main_v195 V : FVec Ideal S4096x32x256 .f32) (ix3 n a d)
    = ((Spec.src (args V).weights (tokens V n) (coords V n) a d : ℝ) : EReal) := by
  have e : res_main_v195 V = addf (addf (res_main_v1 V) (Host.dotGeneral dot_S4096x32x256_S256x256_S4096x32x256_2_0_01_1_n_n none
      (out (lin (res_main_v27 V) (args V).wv (args V).bv) (res_main_v183 V)) (args V).wo)) (spread (args V).bo) := rfl
  have hw : ∀ d n, (args V).wo (ix2 d n) = (((args V).weights.wo d n : ℝ) : EReal) := fun _ _ => A.wo _
  have hb : ∀ n, (args V).bo (ix1 n) = (((args V).weights.bo n : ℝ) : EReal) := fun _ => A.bo _
  have ho := o_at V A
  have hx := x_at V A
  rw [e]
  generalize out (lin (res_main_v27 V) (args V).wv (args V).bv) (res_main_v183 V) = o at ho ⊢
  generalize hx' : res_main_v1 V = x at hx ⊢
  pointwise [spread, hx, ho, hw, hb]
  rw [Ext.sum_eq fun _ => (EReal.coe_mul _ _).symm, ← EReal.coe_add, ← EReal.coe_add]
  rfl

end Cert.ReferenceIdeal.Block

end
-- ==== Proof.RefValue.lean ====
/- The reference's result array. -/
module

public import proofs.«01_k».proof.Proof.RefAttention

@[expose] public section

set_option maxRecDepth 16384

noncomputable section

namespace Cert.ReferenceIdeal.Block

open Cert.ReferenceIdeal Cert.ReferenceIdeal.Gen Cert.ReferenceIdeal.Value Idealize.ShloMosaic Idealize.ShloMosaic.TcCoe
open Idealize.ShloMosaic.StableHlo Idealize.SL.Sem Finset

/-- The hidden layer before its activation, of normed rows. -/
def hiddenOf (l : FVec Ideal S4096x32x256 .f32) (w : FVec Ideal S256x1024 .f32) (b : FVec Ideal S1024 .f32) :
    FVec Ideal S4096x32x1024 .f32 :=
  addf (Host.dotGeneral dot_S4096x32x256_S256x1024_S4096x32x1024_2_0_01_1_n_n none l w)
    (broadcastInDim S4096x32x1024 ![0, 1, 2] bcast_S1x1x1024_S4096x32x1024_0_1_2 (broadcastInDim S1x1x1024 ![2] bcast_S1024_S1x1x1024_2 b))

/-- A constant, the same for every entry of the hidden layer. -/
def fill (b : BitVec 32) : FVec Ideal S4096x32x1024 .f32 :=
  broadcastInDim S4096x32x1024 ![] bcast_S_S4096x32x1024 (constant S_ .f32 b)

/-- The activation. -/
def act (u : FVec Ideal S4096x32x1024 .f32) : FVec Ideal S4096x32x1024 .f32 :=
  mulf u (mulf (fill 0x3F000000#32) (addf (fill 0x3F800000#32)
    (Host.tanh (mulf (fill 0x3F4C422A#32) (addf u (mulf (fill 0x3D372713#32) (mulf (mulf u u) u)))))))

/-- The output of the multilayer perceptron, added to the rows. -/
def after (y : FVec Ideal S4096x32x256 .f32) (u : FVec Ideal S4096x32x1024 .f32) (w : FVec Ideal S1024x256 .f32)
    (b : FVec Ideal S256 .f32) : FVec Ideal S4096x32x256 .f32 :=
  addf y (addf (Host.dotGeneral dot_S4096x32x1024_S1024x256_S4096x32x256_2_0_01_1_n_n none u w) (spread b))

/-- The rows put back in the arguments' order. -/
def back (y : FVec Ideal S4096x32x256 .f32) : FVec Ideal S8x32x512x256 .f32 :=
  transpose S8x32x512x256 [0, 2, 1, 3] (shapeCast S8x512x32x256 y shapeCasts_S4096x32x256_S8x512x32x256)
    transposes_S8x512x32x256_S8x32x512x256_0_2_1_3

theorem hiddenOf_at (l : FVec Ideal S4096x32x256 .f32) (w : FVec Ideal S256x1024 .f32) (b : FVec Ideal S1024 .f32)
    (n : Fin 4096) (c : Fin 32) (f : Fin 1024) :
    hiddenOf l w b (ix3 n c f) = ∑ d, l (ix3 n c d) * w (ix2 d f) + b (ix1 f) := by
  pointwise [hiddenOf]

theorem act_at (u : FVec Ideal S4096x32x1024 .f32) (n : Fin 4096) (c : Fin 32) (f : Fin 1024) :
    act u (ix3 n c f) = Spec.gelu (u (ix3 n c f)) := by
  pointwise [act, fill, Consts.half32, Consts.one32, Consts.gelu_a, Consts.gelu_c]
  rw [Spec.gelu, ← mul_assoc, mul_comm (u (ix3 n c f))]

theorem after_at (y : FVec Ideal S4096x32x256 .f32) (u : FVec Ideal S4096x32x1024 .f32) (w : FVec Ideal S1024x256 .f32)
    (b : FVec Ideal S256 .f32) (n : Fin 4096) (c : Fin 32) (d : Fin 256) :
    after y u w b (ix3 n c d) = y (ix3 n c d) + (∑ f, u (ix3 n c f) * w (ix2 f d) + b (ix1 d)) := by
  pointwise [after, spread]

theorem back_at (y : FVec Ideal S4096x32x256 .f32) (b : Fin 8) (c : Fin 32) (s : Fin 512) (d : Fin 256) :
    back y (ix4 b c s d) = y (ix3 ⟨b * 512 + s, by omega⟩ c d) := by
  pointwise [back]

variable (V : Valuation τ sig (Elt Ideal)) (A : (args V).Finite)

include A

theorem hidden_at (n : Fin 4096) (c : Fin 32) (f : Fin 1024) : (res_main_v223 V : FVec Ideal S4096x32x1024 .f32) (ix3 n c f)
    = Spec.hidden (args V).tail (Spec.src (args V).weights (tokens V n) (coords V n) c) f := by
  have e : res_main_v223 V = hiddenOf (lnorm (res_main_v195 V) (args V).g2 (args V).b2) (args V).w1 (args V).c1 := rfl
  rw [e, hiddenOf_at]
  simp only [lnorm_at (res_main_v195 V) (fun n => Spec.src (args V).weights (tokens V n) (coords V n)) (src_at V A)]
  rfl

/-- The array that the reference returns is the block's result. -/
theorem result_eq : back (after (res_main_v195 V) (act (res_main_v223 V)) (args V).w2 (args V).c2) = (args V).result := by
  funext i
  idx_vars i
  rw [back_at, after_at, src_at V A]
  simp only [act_at, hidden_at V A]
  rw [Args.result_at (args V) _ i0 i1 i2 i3 rfl rfl rfl rfl]
  have h1 : (⟨(i0.val * 512 + i2.val) / 512, by omega⟩ : Fin 8) = i0 := Fin.ext (by dsimp only; omega)
  have h2 : (⟨(i0.val * 512 + i2.val) % 512, by omega⟩ : Fin 512) = i2 := Fin.ext (by dsimp only; omega)
  simp only [tokens, coords, h1, h2]
  rfl

end Cert.ReferenceIdeal.Block

end
-- ==== Proof.Algebraic.lean ====
/- On memories whose arguments agree and satisfy the precondition, the kernel and the reference return the same array. -/
module

public import proofs.«01_k».proof.Defs
public import proofs.«01_k».proof.Proof.ArrayValue
public import proofs.«01_k».proof.Proof.RefValue
public import proofs.«01_k».proof.Proof.Finite

@[expose] public section

noncomputable section

namespace Cert.Claims

open Idealize.ShloMosaic Idealize.SL.Sem

/-- The two programs return the same array. -/
theorem algebraic : Cert.algebraic_KernelIdeal_ReferenceIdeal_pre_finite_to_attention
    (hPre_finite_to_attention := Pre_finite_to_attention.facts) := fun m ρ m' ρ' hpre hag => by
  have fin : ∀ c, (KernelIdeal.Block.args m c).Finite := fun c =>
    letI := Pre_finite_to_attention.facts
    Pre_finite_to_attention.finite (KernelIdeal.Block.args m c) (hpre c)
  have same : ∀ c, ReferenceIdeal.Block.args (StableHlo.launchContents m' c) = KernelIdeal.Block.args m c := fun c => by
    rw [ReferenceIdeal.Block.args, KernelIdeal.Block.args, Args.mk.injEq]
    exact hag c
  refine ⟨fun c => (KernelIdeal.Block.args m c).result, ?_, ?_⟩
  · refine (θ_run KernelIdeal.defs _ _).mono (fun r h c => ?_) (KernelIdeal.Value.run_blocks m ρ)
    exact ⟨(h c).1.trans (KernelIdeal.Block.final m c (fin c)), (h c).2⟩
  · refine (θ_run ReferenceIdeal.defs _ _).mono (fun r h c => ?_) (ReferenceIdeal.Value.run (F := Ideal) m' ρ')
    exact ⟨(h c).1.trans ((ReferenceIdeal.Block.result_eq (StableHlo.launchContents m' c) (by rw [same]; exact fin c)).trans
      (congrArg Args.result (same c))), (h c).2⟩

end Cert.Claims

end
-- ==== Proof.lean ====
/- The proof of the certificate's claim, put together from the modules under Proof/. -/
module

public import proofs.«01_k».proof.Defs
public import proofs.«01_k».proof.Proof.Frames
public import proofs.«01_k».proof.Proof.Algebraic
public import proofs.«01_k».proof.Proof.Gen.KernelIdeal.Value
public import proofs.«01_k».proof.Proof.Gen.ReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Pre_finite_to_attention.facts,
    Claims.frame_kernel, Claims.frame_ideal, Claims.frame_ideal_pre, Claims.frame_reference, Claims.frame_reference_pre,
    Claims.preserves, Claims.algebraic⟩

end Cert.Proof

end
